-- ==== Defs.lean ====
def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsRefIdeal (m : (ℓ : Loc Cert.HeadsRefIdeal.nD Cert.HeadsRefIdeal.τ Cert.HeadsRefIdeal.sig) → Buf (Elt Ideal) ℓ) : Prop :=
  True

def Pre_Verify [hPre_tokens_in_range : Cert.Pre_tokens_in_range.Facts] (m : (ℓ : Loc Cert.Verify.nD Cert.Verify.τ Cert.Verify.sig) → Buf (Elt Bits) ℓ) : Prop :=
  ∀ c : Dev Cert.Verify.nD,
    (Cert.Pre_tokens_in_range.fn (F := Bits) (m ((c.tc : Thread Cert.Verify.nD Cert.Verify.τ).loc Cert.Verify.main_arg0)) (m ((c.tc : Thread Cert.Verify.nD Cert.Verify.τ).loc Cert.Verify.main_arg1)) (m ((c.tc : Thread Cert.Verify.nD Cert.Verify.τ).loc Cert.Verify.main_arg2)) (m ((c.tc : Thread Cert.Verify.nD Cert.Verify.τ).loc Cert.Verify.main_arg3))) = (fun _ => 1#1)

def Pre_VerifyIdeal [hPre_tokens_in_range : Cert.Pre_tokens_in_range.Facts] (m : (ℓ : Loc Cert.VerifyIdeal.nD Cert.VerifyIdeal.τ Cert.VerifyIdeal.sig) → Buf (Elt Ideal) ℓ) : Prop :=
  ∀ c : Dev Cert.VerifyIdeal.nD,
    (Cert.Pre_tokens_in_range.fn (F := Ideal) (m ((c.tc : Thread Cert.VerifyIdeal.nD Cert.VerifyIdeal.τ).loc Cert.VerifyIdeal.main_arg0)) (m ((c.tc : Thread Cert.VerifyIdeal.nD Cert.VerifyIdeal.τ).loc Cert.VerifyIdeal.main_arg1)) (m ((c.tc : Thread Cert.VerifyIdeal.nD Cert.VerifyIdeal.τ).loc Cert.VerifyIdeal.main_arg2)) (m ((c.tc : Thread Cert.VerifyIdeal.nD Cert.VerifyIdeal.τ).loc Cert.VerifyIdeal.main_arg3))) = (fun _ => 1#1)

def Pre_Bonus (m : (ℓ : Loc Cert.Bonus.nD Cert.Bonus.τ Cert.Bonus.sig) → Buf (Elt Bits) ℓ) : Prop :=
  True

def Pre_BonusIdeal (m : (ℓ : Loc Cert.BonusIdeal.nD Cert.BonusIdeal.τ Cert.BonusIdeal.sig) → Buf (Elt Ideal) ℓ) : Prop :=
  True

def Pre_BonusIdeal_largest_logits_finite [hPre_largest_logits_finite : Cert.Pre_largest_logits_finite.Facts] (m : (ℓ : Loc Cert.BonusIdeal.nD Cert.BonusIdeal.τ Cert.BonusIdeal.sig) → Buf (Elt Ideal) ℓ) : Prop :=
  ∀ c : Dev Cert.BonusIdeal.nD,
    (Cert.Pre_largest_logits_finite.fn (F := Ideal) (m ((c.tc : Thread Cert.BonusIdeal.nD Cert.BonusIdeal.τ).loc Cert.BonusIdeal.main_arg0))) = (fun _ => 1#1)

def Pre_BonusRefIdeal (m : (ℓ : Loc Cert.BonusRefIdeal.nD Cert.BonusRefIdeal.τ Cert.BonusRefIdeal.sig) → Buf (Elt Ideal) ℓ) : Prop :=
  True

def Pre_BonusRefIdeal_largest_logits_finite [hPre_largest_logits_finite : Cert.Pre_largest_logits_finite.Facts] (m : (ℓ : Loc Cert.BonusRefIdeal.nD Cert.BonusRefIdeal.τ Cert.BonusRefIdeal.sig) → Buf (Elt Ideal) ℓ) : Prop :=
  ∀ c : Dev Cert.BonusRefIdeal.nD,
    (Cert.Pre_largest_logits_finite.fn (F := Ideal) (m ((c.tc : Thread Cert.BonusRefIdeal.nD Cert.BonusRefIdeal.τ).loc Cert.BonusRefIdeal.main_arg0))) = (fun _ => 1#1)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3)
      ∧ r.2.mem ((c.tc : Thread Cert.Heads.nD Cert.Heads.τ).loc Cert.Heads.main_arg4) = m ((c.tc : Thread Cert.Heads.nD Cert.Heads.τ).loc Cert.Heads.main_arg4)
      ∧ r.2.mem ((c.tc : Thread Cert.Heads.nD Cert.Heads.τ).loc Cert.Heads.main_arg5) = m ((c.tc : Thread Cert.Heads.nD Cert.Heads.τ).loc Cert.Heads.main_arg5)
      ∧ r.2.mem ((c.tc : Thread Cert.Heads.nD Cert.Heads.τ).loc Cert.Heads.main_arg6) = m ((c.tc : Thread Cert.Heads.nD Cert.Heads.τ).loc Cert.Heads.main_arg6)
      ∧ r.2.mem ((c.tc : Thread Cert.Heads.nD Cert.Heads.τ).loc Cert.Heads.main_arg7) = m ((c.tc : Thread Cert.Heads.nD Cert.Heads.τ).loc Cert.Heads.main_arg7))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
      ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
      ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2)
      ∧ r.2.mem ((c.tc : Thread Cert.HeadsRefIdeal.nD Cert.HeadsRefIdeal.τ).loc Cert.HeadsRefIdeal.main_arg3) = m ((c.tc : Thread Cert.HeadsRefIdeal.nD Cert.HeadsRefIdeal.τ).loc Cert.HeadsRefIdeal.main_arg3)
      ∧ r.2.mem ((c.tc : Thread Cert.HeadsRefIdeal.nD Cert.HeadsRefIdeal.τ).loc Cert.HeadsRefIdeal.main_arg4) = m ((c.tc : Thread Cert.HeadsRefIdeal.nD Cert.HeadsRefIdeal.τ).loc Cert.HeadsRefIdeal.main_arg4)
      ∧ r.2.mem ((c.tc : Thread Cert.HeadsRefIdeal.nD Cert.HeadsRefIdeal.τ).loc Cert.HeadsRefIdeal.main_arg5) = m ((c.tc : Thread Cert.HeadsRefIdeal.nD Cert.HeadsRefIdeal.τ).loc Cert.HeadsRefIdeal.main_arg5)
      ∧ r.2.mem ((c.tc : Thread Cert.HeadsRefIdeal.nD Cert.HeadsRefIdeal.τ).loc Cert.HeadsRefIdeal.main_arg6) = m ((c.tc : Thread Cert.HeadsRefIdeal.nD Cert.HeadsRefIdeal.τ).loc Cert.HeadsRefIdeal.main_arg6)
      ∧ r.2.mem ((c.tc : Thread Cert.HeadsRefIdeal.nD Cert.HeadsRefIdeal.τ).loc Cert.HeadsRefIdeal.main_arg7) = m ((c.tc : Thread Cert.HeadsRefIdeal.nD Cert.HeadsRefIdeal.τ).loc Cert.HeadsRefIdeal.main_arg7))
      ∧ r.2.sem = fun _ => 0)

def quiescent_Verify [hVerify : Cert.Verify.Facts] [hPre_tokens_in_range : Cert.Pre_tokens_in_range.Facts] : Prop :=
  ∀ (m : (ℓ : Loc Cert.Verify.nD Cert.Verify.τ Cert.Verify.sig) → Buf (Elt Bits) ℓ) (g : Dev Cert.Verify.nD → PrngReg), Pre_Verify m →
    θ_run (Cert.Verify.defs (F := Bits)) (onTc (τ := Cert.Verify.τ) (Cert.Verify.main (F := Bits))) ⟨m, fun _ => 0, g⟩ (fun r => (∀ c : Dev Cert.Verify.nD,
      r.2.mem ((c.tc : Thread Cert.Verify.nD Cert.Verify.τ).loc Cert.Verify.main_arg0) = m ((c.tc : Thread Cert.Verify.nD Cert.Verify.τ).loc Cert.Verify.main_arg0)
      ∧ r.2.mem ((c.tc : Thread Cert.Verify.nD Cert.Verify.τ).loc Cert.Verify.main_arg1) = m ((c.tc : Thread Cert.Verify.nD Cert.Verify.τ).loc Cert.Verify.main_arg1)
      ∧ r.2.mem ((c.tc : Thread Cert.Verify.nD Cert.Verify.τ).loc Cert.Verify.main_arg2) = m ((c.tc : Thread Cert.Verify.nD Cert.Verify.τ).loc Cert.Verify.main_arg2)
      ∧ r.2.mem ((c.tc : Thread Cert.Verify.nD Cert.Verify.τ).loc Cert.Verify.main_arg3) = m ((c.tc : Thread Cert.Verify.nD Cert.Verify.τ).loc Cert.Verify.main_arg3))
      ∧ r.2.sem = fun _ => 0)

def quiescent_VerifyIdeal [hVerifyIdeal : Cert.VerifyIdeal.Facts] [hPre_tokens_in_range : Cert.Pre_tokens_in_range.Facts] : Prop :=
  ∀ (m : (ℓ : Loc Cert.VerifyIdeal.nD Cert.VerifyIdeal.τ Cert.VerifyIdeal.sig) → Buf (Elt Ideal) ℓ) (g : Dev Cert.VerifyIdeal.nD → PrngReg), Pre_VerifyIdeal m →
    θ_run (Cert.VerifyIdeal.defs (F := Ideal)) (onTc (τ := Cert.VerifyIdeal.τ) (Cert.VerifyIdeal.main (F := Ideal))) ⟨m, fun _ => 0, g⟩ (fun r => (∀ c : Dev Cert.VerifyIdeal.nD,
      r.2.mem ((c.tc : Thread Cert.VerifyIdeal.nD Cert.VerifyIdeal.τ).loc Cert.VerifyIdeal.main_arg0) = m ((c.tc : Thread Cert.VerifyIdeal.nD Cert.VerifyIdeal.τ).loc Cert.VerifyIdeal.main_arg0)
      ∧ r.2.mem ((c.tc : Thread Cert.VerifyIdeal.nD Cert.VerifyIdeal.τ).loc Cert.VerifyIdeal.main_arg1) = m ((c.tc : Thread Cert.VerifyIdeal.nD Cert.VerifyIdeal.τ).loc Cert.VerifyIdeal.main_arg1)
      ∧ r.2.mem ((c.tc : Thread Cert.VerifyIdeal.nD Cert.VerifyIdeal.τ).loc Cert.VerifyIdeal.main_arg2) = m ((c.tc : Thread Cert.VerifyIdeal.nD Cert.VerifyIdeal.τ).loc Cert.VerifyIdeal.main_arg2)
      ∧ r.2.mem ((c.tc : Thread Cert.VerifyIdeal.nD Cert.VerifyIdeal.τ).loc Cert.VerifyIdeal.main_arg3) = m ((c.tc : Thread Cert.VerifyIdeal.nD Cert.VerifyIdeal.τ).loc Cert.VerifyIdeal.main_arg3))
      ∧ r.2.sem = fun _ => 0)

def quiescent_Bonus [hBonus : Cert.Bonus.Facts] : Prop :=
  ∀ (m : (ℓ : Loc Cert.Bonus.nD Cert.Bonus.τ Cert.Bonus.sig) → Buf (Elt Bits) ℓ) (g : Dev Cert.Bonus.nD → PrngReg), Pre_Bonus m →
    θ_run (Cert.Bonus.defs (F := Bits)) (onTc (τ := Cert.Bonus.τ) (Cert.Bonus.main (F := Bits))) ⟨m, fun _ => 0, g⟩ (fun r => (∀ c : Dev Cert.Bonus.nD,
      r.2.mem ((c.tc : Thread Cert.Bonus.nD Cert.Bonus.τ).loc Cert.Bonus.main_arg0) = m ((c.tc : Thread Cert.Bonus.nD Cert.Bonus.τ).loc Cert.Bonus.main_arg0))
      ∧ r.2.sem = fun _ => 0)

def quiescent_BonusIdeal [hBonusIdeal : Cert.BonusIdeal.Facts] : Prop :=
  ∀ (m : (ℓ : Loc Cert.BonusIdeal.nD Cert.BonusIdeal.τ Cert.BonusIdeal.sig) → Buf (Elt Ideal) ℓ) (g : Dev Cert.BonusIdeal.nD → PrngReg), Pre_BonusIdeal m →
    θ_run (Cert.BonusIdeal.defs (F := Ideal)) (onTc (τ := Cert.BonusIdeal.τ) (Cert.BonusIdeal.main (F := Ideal))) ⟨m, fun _ => 0, g⟩ (fun r => (∀ c : Dev Cert.BonusIdeal.nD,
      r.2.mem ((c.tc : Thread Cert.BonusIdeal.nD Cert.BonusIdeal.τ).loc Cert.BonusIdeal.main_arg0) = m ((c.tc : Thread Cert.BonusIdeal.nD Cert.BonusIdeal.τ).loc Cert.BonusIdeal.main_arg0))
      ∧ r.2.sem = fun _ => 0)

def quiescent_BonusIdeal_pre_largest_logits_finite [hBonusIdeal : Cert.BonusIdeal.Facts] [hPre_largest_logits_finite : Cert.Pre_largest_logits_finite.Facts] : Prop :=
  ∀ (m : (ℓ : Loc Cert.BonusIdeal.nD Cert.BonusIdeal.τ Cert.BonusIdeal.sig) → Buf (Elt Ideal) ℓ) (g : Dev Cert.BonusIdeal.nD → PrngReg), Pre_BonusIdeal_largest_logits_finite m →
    θ_run (Cert.BonusIdeal.defs (F := Ideal)) (onTc (τ := Cert.BonusIdeal.τ) (Cert.BonusIdeal.main (F := Ideal))) ⟨m, fun _ => 0, g⟩ (fun r => (∀ c : Dev Cert.BonusIdeal.nD,
      r.2.mem ((c.tc : Thread Cert.BonusIdeal.nD Cert.BonusIdeal.τ).loc Cert.BonusIdeal.main_arg0) = m ((c.tc : Thread Cert.BonusIdeal.nD Cert.BonusIdeal.τ).loc Cert.BonusIdeal.main_arg0))
      ∧ r.2.sem = fun _ => 0)

def quiescent_BonusRefIdeal [hBonusRefIdeal : Cert.BonusRefIdeal.Facts] : Prop :=
  ∀ (m : (ℓ : Loc Cert.BonusRefIdeal.nD Cert.BonusRefIdeal.τ Cert.BonusRefIdeal.sig) → Buf (Elt Ideal) ℓ) (g : Dev Cert.BonusRefIdeal.nD → PrngReg), Pre_BonusRefIdeal m →
    θ_run (Cert.BonusRefIdeal.defs (F := Ideal)) (onTc (τ := Cert.BonusRefIdeal.τ) (Cert.BonusRefIdeal.main (F := Ideal))) ⟨m, fun _ => 0, g⟩ (fun r => (∀ c : Dev Cert.BonusRefIdeal.nD,
      r.2.mem ((c.tc : Thread Cert.BonusRefIdeal.nD Cert.BonusRefIdeal.τ).loc Cert.BonusRefIdeal.main_arg0) = m ((c.tc : Thread Cert.BonusRefIdeal.nD Cert.BonusRefIdeal.τ).loc Cert.BonusRefIdeal.main_arg0))
      ∧ r.2.sem = fun _ => 0)

def quiescent_BonusRefIdeal_pre_largest_logits_finite [hBonusRefIdeal : Cert.BonusRefIdeal.Facts] [hPre_largest_logits_finite : Cert.Pre_largest_logits_finite.Facts] : Prop :=
  ∀ (m : (ℓ : Loc Cert.BonusRefIdeal.nD Cert.BonusRefIdeal.τ Cert.BonusRefIdeal.sig) → Buf (Elt Ideal) ℓ) (g : Dev Cert.BonusRefIdeal.nD → PrngReg), Pre_BonusRefIdeal_largest_logits_finite m →
    θ_run (Cert.BonusRefIdeal.defs (F := Ideal)) (onTc (τ := Cert.BonusRefIdeal.τ) (Cert.BonusRefIdeal.main (F := Ideal))) ⟨m, fun _ => 0, g⟩ (fun r => (∀ c : Dev Cert.BonusRefIdeal.nD,
      r.2.mem ((c.tc : Thread Cert.BonusRefIdeal.nD Cert.BonusRefIdeal.τ).loc Cert.BonusRefIdeal.main_arg0) = m ((c.tc : Thread Cert.BonusRefIdeal.nD Cert.BonusRefIdeal.τ).loc Cert.BonusRefIdeal.main_arg0))
      ∧ r.2.sem = fun _ => 0)

def preserves_Heads_HeadsIdeal : Prop :=
  True

def algebraic_HeadsIdeal_HeadsRefIdeal [hHeadsIdeal : Cert.HeadsIdeal.Facts] [hHeadsRefIdeal : Cert.HeadsRefIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)
      ∧ m' ((c.tc : Thread Cert.HeadsRefIdeal.nD Cert.HeadsRefIdeal.τ).loc Cert.HeadsRefIdeal.main_arg2) = m ((c.tc : Thread Cert.HeadsIdeal.nD Cert.HeadsIdeal.τ).loc Cert.HeadsIdeal.main_arg2)
      ∧ m' ((c.tc : Thread Cert.HeadsRefIdeal.nD Cert.HeadsRefIdeal.τ).loc Cert.HeadsRefIdeal.main_arg3) = m ((c.tc : Thread Cert.HeadsIdeal.nD Cert.HeadsIdeal.τ).loc Cert.HeadsIdeal.main_arg3)
      ∧ m' ((c.tc : Thread Cert.HeadsRefIdeal.nD Cert.HeadsRefIdeal.τ).loc Cert.HeadsRefIdeal.main_arg4) = m ((c.tc : Thread Cert.HeadsIdeal.nD Cert.HeadsIdeal.τ).loc Cert.HeadsIdeal.main_arg4)
      ∧ m' ((c.tc : Thread Cert.HeadsRefIdeal.nD Cert.HeadsRefIdeal.τ).loc Cert.HeadsRefIdeal.main_arg5) = m ((c.tc : Thread Cert.HeadsIdeal.nD Cert.HeadsIdeal.τ).loc Cert.HeadsIdeal.main_arg5)
      ∧ m' ((c.tc : Thread Cert.HeadsRefIdeal.nD Cert.HeadsRefIdeal.τ).loc Cert.HeadsRefIdeal.main_arg6) = m ((c.tc : Thread Cert.HeadsIdeal.nD Cert.HeadsIdeal.τ).loc Cert.HeadsIdeal.main_arg6)
      ∧ m' ((c.tc : Thread Cert.HeadsRefIdeal.nD Cert.HeadsRefIdeal.τ).loc Cert.HeadsRefIdeal.main_arg7) = m ((c.tc : Thread Cert.HeadsIdeal.nD Cert.HeadsIdeal.τ).loc Cert.HeadsIdeal.main_arg7)) →
    ∃ (v0 : (c : Dev Cert.HeadsIdeal.nD) → Buf (Elt Ideal) ((c.tc : Thread Cert.HeadsIdeal.nD Cert.HeadsIdeal.τ).loc Cert.HeadsIdeal.main_v3_0)) (v1 : (c : Dev Cert.HeadsIdeal.nD) → Buf (Elt Ideal) ((c.tc : Thread Cert.HeadsIdeal.nD Cert.HeadsIdeal.τ).loc Cert.HeadsIdeal.main_v3_1)) (v2 : (c : Dev Cert.HeadsIdeal.nD) → Buf (Elt Ideal) ((c.tc : Thread Cert.HeadsIdeal.nD Cert.HeadsIdeal.τ).loc Cert.HeadsIdeal.main_v3_2)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v3_0) = v0 c
          ∧ r.2.mem ((c.tc : Thread Cert.HeadsIdeal.nD Cert.HeadsIdeal.τ).loc Cert.HeadsIdeal.main_v3_1) = v1 c
          ∧ r.2.mem ((c.tc : Thread Cert.HeadsIdeal.nD Cert.HeadsIdeal.τ).loc Cert.HeadsIdeal.main_v3_2) = v2 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
          ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
          ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
          ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v28) = v0 c
          ∧ r.2.mem ((c.tc : Thread Cert.HeadsRefIdeal.nD Cert.HeadsRefIdeal.τ).loc Cert.HeadsRefIdeal.main_v33) = v1 c
          ∧ r.2.mem ((c.tc : Thread Cert.HeadsRefIdeal.nD Cert.HeadsRefIdeal.τ).loc Cert.HeadsRefIdeal.main_v36) = v2 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1)
          ∧ r.2.mem ((c.tc : Thread Cert.HeadsRefIdeal.nD Cert.HeadsRefIdeal.τ).loc Cert.HeadsRefIdeal.main_arg2) = m' ((c.tc : Thread Cert.HeadsRefIdeal.nD Cert.HeadsRefIdeal.τ).loc Cert.HeadsRefIdeal.main_arg2)
          ∧ r.2.mem ((c.tc : Thread Cert.HeadsRefIdeal.nD Cert.HeadsRefIdeal.τ).loc Cert.HeadsRefIdeal.main_arg3) = m' ((c.tc : Thread Cert.HeadsRefIdeal.nD Cert.HeadsRefIdeal.τ).loc Cert.HeadsRefIdeal.main_arg3)
          ∧ r.2.mem ((c.tc : Thread Cert.HeadsRefIdeal.nD Cert.HeadsRefIdeal.τ).loc Cert.HeadsRefIdeal.main_arg4) = m' ((c.tc : Thread Cert.HeadsRefIdeal.nD Cert.HeadsRefIdeal.τ).loc Cert.HeadsRefIdeal.main_arg4)
          ∧ r.2.mem ((c.tc : Thread Cert.HeadsRefIdeal.nD Cert.HeadsRefIdeal.τ).loc Cert.HeadsRefIdeal.main_arg5) = m' ((c.tc : Thread Cert.HeadsRefIdeal.nD Cert.HeadsRefIdeal.τ).loc Cert.HeadsRefIdeal.main_arg5)
          ∧ r.2.mem ((c.tc : Thread Cert.HeadsRefIdeal.nD Cert.HeadsRefIdeal.τ).loc Cert.HeadsRefIdeal.main_arg6) = m' ((c.tc : Thread Cert.HeadsRefIdeal.nD Cert.HeadsRefIdeal.τ).loc Cert.HeadsRefIdeal.main_arg6)
          ∧ r.2.mem ((c.tc : Thread Cert.HeadsRefIdeal.nD Cert.HeadsRefIdeal.τ).loc Cert.HeadsRefIdeal.main_arg7) = m' ((c.tc : Thread Cert.HeadsRefIdeal.nD Cert.HeadsRefIdeal.τ).loc Cert.HeadsRefIdeal.main_arg7))

def preserves_Verify_VerifyIdeal : Prop :=
  True

def preserves_Bonus_BonusIdeal : Prop :=
  True

def algebraic_BonusIdeal_BonusRefIdeal_pre_largest_logits_finite [hBonusIdeal : Cert.BonusIdeal.Facts] [hBonusRefIdeal : Cert.BonusRefIdeal.Facts] [hPre_largest_logits_finite : Cert.Pre_largest_logits_finite.Facts] : Prop :=
  ∀ (m : (ℓ : Loc Cert.BonusIdeal.nD Cert.BonusIdeal.τ Cert.BonusIdeal.sig) → Buf (Elt Ideal) ℓ) (g : Dev Cert.BonusIdeal.nD → PrngReg)
    (m' : (ℓ : Loc Cert.BonusRefIdeal.nD Cert.BonusRefIdeal.τ Cert.BonusRefIdeal.sig) → Buf (Elt Ideal) ℓ) (g' : Dev Cert.BonusRefIdeal.nD → PrngReg), Pre_BonusIdeal_largest_logits_finite m →
    (∀ c : Dev Cert.BonusIdeal.nD,
      m' ((c.tc : Thread Cert.BonusRefIdeal.nD Cert.BonusRefIdeal.τ).loc Cert.BonusRefIdeal.main_arg0) = m ((c.tc : Thread Cert.BonusIdeal.nD Cert.BonusIdeal.τ).loc Cert.BonusIdeal.main_arg0)) →
    ∃ (v0 : (c : Dev Cert.BonusIdeal.nD) → Buf (Elt Ideal) ((c.tc : Thread Cert.BonusIdeal.nD Cert.BonusIdeal.τ).loc Cert.BonusIdeal.main_v0)),
      θ_run (Cert.BonusIdeal.defs (F := Ideal)) (onTc (τ := Cert.BonusIdeal.τ) (Cert.BonusIdeal.main (F := Ideal))) ⟨m, fun _ => 0, g⟩ (fun r => ∀ c : Dev Cert.BonusIdeal.nD,
          r.2.mem ((c.tc : Thread Cert.BonusIdeal.nD Cert.BonusIdeal.τ).loc Cert.BonusIdeal.main_v0) = v0 c
          ∧ r.2.mem ((c.tc : Thread Cert.BonusIdeal.nD Cert.BonusIdeal.τ).loc Cert.BonusIdeal.main_arg0) = m ((c.tc : Thread Cert.BonusIdeal.nD Cert.BonusIdeal.τ).loc Cert.BonusIdeal.main_arg0))
      ∧ θ_run (Cert.BonusRefIdeal.defs (F := Ideal)) (onTc (τ := Cert.BonusRefIdeal.τ) (Cert.BonusRefIdeal.main (F := Ideal))) ⟨m', fun _ => 0, g'⟩ (fun r => ∀ c : Dev Cert.BonusRefIdeal.nD,
          r.2.mem ((c.tc : Thread Cert.BonusRefIdeal.nD Cert.BonusRefIdeal.τ).loc Cert.BonusRefIdeal.main_v11) = v0 c
          ∧ r.2.mem ((c.tc : Thread Cert.BonusRefIdeal.nD Cert.BonusRefIdeal.τ).loc Cert.BonusRefIdeal.main_arg0) = m' ((c.tc : Thread Cert.BonusRefIdeal.nD Cert.BonusRefIdeal.τ).loc Cert.BonusRefIdeal.main_arg0))

def Claim : Prop :=
  ∃ (hHeads : Cert.Heads.Facts) (hHeadsIdeal : Cert.HeadsIdeal.Facts) (hHeadsRefIdeal : Cert.HeadsRefIdeal.Facts) (hVerify : Cert.Verify.Facts) (hVerifyIdeal : Cert.VerifyIdeal.Facts) (hBonus : Cert.Bonus.Facts) (hBonusIdeal : Cert.BonusIdeal.Facts) (hBonusRefIdeal : Cert.BonusRefIdeal.Facts) (hPre_tokens_in_range : Cert.Pre_tokens_in_range.Facts) (hPre_largest_logits_finite : Cert.Pre_largest_logits_finite.Facts),
    quiescent_Heads (hHeads := hHeads)
    ∧ quiescent_HeadsIdeal (hHeadsIdeal := hHeadsIdeal)
    ∧ quiescent_HeadsRefIdeal (hHeadsRefIdeal := hHeadsRefIdeal)
    ∧ quiescent_Verify (hVerify := hVerify) (hPre_tokens_in_range := hPre_tokens_in_range)
    ∧ quiescent_VerifyIdeal (hVerifyIdeal := hVerifyIdeal) (hPre_tokens_in_range := hPre_tokens_in_range)
    ∧ quiescent_Bonus (hBonus := hBonus)
    ∧ quiescent_BonusIdeal (hBonusIdeal := hBonusIdeal)
    ∧ quiescent_BonusIdeal_pre_largest_logits_finite (hBonusIdeal := hBonusIdeal) (hPre_largest_logits_finite := hPre_largest_logits_finite)
    ∧ quiescent_BonusRefIdeal (hBonusRefIdeal := hBonusRefIdeal)
    ∧ quiescent_BonusRefIdeal_pre_largest_logits_finite (hBonusRefIdeal := hBonusRefIdeal) (hPre_largest_logits_finite := hPre_largest_logits_finite)
    ∧ preserves_Heads_HeadsIdeal
    ∧ algebraic_HeadsIdeal_HeadsRefIdeal (hHeadsIdeal := hHeadsIdeal) (hHeadsRefIdeal := hHeadsRefIdeal)
    ∧ preserves_Verify_VerifyIdeal
    ∧ preserves_Bonus_BonusIdeal
    ∧ algebraic_BonusIdeal_BonusRefIdeal_pre_largest_logits_finite (hBonusIdeal := hBonusIdeal) (hBonusRefIdeal := hBonusRefIdeal) (hPre_largest_logits_finite := hPre_largest_logits_finite)
-- ==== Pre_largest_logits_finite.lean ====
abbrev S272x32000 : Shape := ⟨2, ![272, 32000]⟩
abbrev S_ : Shape := ⟨0, ![]⟩
abbrev S272 : Shape := ⟨1, ![272]⟩

class Facts : Prop where
  reducesTo_S272x32000_S272_d1 : S272x32000.ReducesTo [1] S272
  h_S_ : 0 < S_.numel
  bcast_S_S272 : S_.BroadcastsInDim S272 (![] : Fin 0 → Fin S272.rank)
  reducesTo_S272_S_d0 : S272.ReducesTo [0] S_

variable [Facts]

def fn {F : FTy → Type} [FloatOps F] (main_arg0 : FVec F S272x32000 .f32) : IVec S_ 1 :=
  let main_cst : FVec F S_ .f32 := constant S_ .f32 0xFF800000#32
  let main_v0 : FVec F S272 .f32 := (fun x v => Host.reduce FloatOps.maximumf x v reducesTo_S272x32000_S272_d1 h_S_) main_arg0 main_cst
  let main_cst_0 : FVec F S_ .f32 := constant S_ .f32 0xFF800000#32
  let main_v1 : FVec F S272 .f32 := broadcastInDim S272 ![] bcast_S_S272 main_cst_0
  let main_v2 : IVec S272 1 := cmpf .ogt main_v0 main_v1
  let main_cst_1 : FVec F S_ .f32 := constant S_ .f32 0x7F800000#32
  let main_v3 : FVec F S272 .f32 := broadcastInDim S272 ![] bcast_S_S272 main_cst_1
  let main_v4 : IVec S272 1 := cmpf .olt main_v0 main_v3
  let main_v5 : IVec S272 1 := andi main_v2 main_v4
  let main_c : IVec S_ 1 := constantI S_ 1 1#1
  let main_v6 : IVec S_ 1 := (fun x v => Host.reduce IntOp.andi x v reducesTo_S272_S_d0 h_S_) main_v5 main_c
  main_v6
-- ==== Pre_tokens_in_range.lean ====
abbrev S2176 : Shape := ⟨1, ![2176]⟩
abbrev S2176x1 : Shape := ⟨2, ![2176, 1]⟩
abbrev S2176x32000 : Shape := ⟨2, ![2176, 32000]⟩
abbrev S_ : Shape := ⟨0, ![]⟩

class Facts : Prop where
  bcast_S_S2176 : S_.BroadcastsInDim S2176 (![] : Fin 0 → Fin S2176.rank)
  reducesTo_S2176_S_d0 : S2176.ReducesTo [0] S_
  h_S_ : 0 < S_.numel

variable [Facts]

def fn {F : FTy → Type} [FloatOps F] (main_arg0 : IVec S2176 32) (main_arg1 : FVec F S2176x1 .f32) (main_arg2 : FVec F S2176x32000 .f32) (main_arg3 : FVec F S2176x32000 .f32) : IVec S_ 1 :=
  let main_c : IVec S_ 32 := constantI S_ 32 0#32
  let main_v0 : IVec S2176 32 := broadcastInDim S2176 ![] bcast_S_S2176 main_c
  let main_v1 : IVec S2176 1 := cmpi .sge main_arg0 main_v0
  let main_c_0 : IVec S_ 32 := constantI S_ 32 32000#32
  let main_v2 : IVec S2176 32 := broadcastInDim S2176 ![] bcast_S_S2176 main_c_0
  let main_v3 : IVec S2176 1 := cmpi .slt main_arg0 main_v2
  let main_v4 : IVec S2176 1 := andi main_v1 main_v3
  let main_c_1 : IVec S_ 1 := constantI S_ 1 1#1
  let main_v5 : IVec S_ 1 := (fun x v => Host.reduce IntOp.andi x v reducesTo_S2176_S_d0 h_S_) main_v4 main_c_1
  main_v5
-- ==== Heads.lean ====
abbrev S2176x4096 : Shape := ⟨2, ![2176, 4096]⟩
abbrev S272x4096 : Shape := ⟨2, ![272, 4096]⟩
abbrev S2176x1536 : Shape := ⟨2, ![2176, 1536]⟩
abbrev S2176 : Shape := ⟨1, ![2176]⟩
abbrev S2048x32000 : Shape := ⟨2, ![2048, 32000]⟩
abbrev S32x32000 : Shape := ⟨2, ![32, 32000]⟩
abbrev S1536x32000 : Shape := ⟨2, ![1536, 32000]⟩
abbrev S32000 : Shape := ⟨1, ![32000]⟩
abbrev S2176x1 : Shape := ⟨2, ![2176, 1]⟩
abbrev S2176x128 : Shape := ⟨2, ![2176, 128]⟩
abbrev S1x32000 : Shape := ⟨2, ![1, 32000]⟩
abbrev S2176x32000 : Shape := ⟨2, ![2176, 32000]⟩
abbrev S272x32000 : Shape := ⟨2, ![272, 32000]⟩
abbrev S2048x256 : Shape := ⟨2, ![2048, 256]⟩
abbrev S32x256 : Shape := ⟨2, ![32, 256]⟩
abbrev S1536x256 : Shape := ⟨2, ![1536, 256]⟩
abbrev S1x256 : Shape := ⟨2, ![1, 256]⟩
abbrev S2176x256 : Shape := ⟨2, ![2176, 256]⟩
abbrev S272x256 : Shape := ⟨2, ![272, 256]⟩
abbrev S4096x256 : Shape := ⟨2, ![4096, 256]⟩
abbrev S2048x1x256 : Shape := ⟨3, ![2048, 1, 256]⟩
abbrev S2048x2x256 : Shape := ⟨3, ![2048, 2, 256]⟩
abbrev S128x256 : Shape := ⟨2, ![128, 256]⟩
abbrev S1x128 : Shape := ⟨2, ![1, 128]⟩

abbrev nBuf : Space → Nat
  | .hbm => 14
  | .vmem => 19
  | .smem => 0
  | _ => 0

abbrev bufTy : (tb : Table) → Fin (tcTables nBuf tb) → BufTy
  | .hbm, ⟨0, _⟩ => ⟨S2176x4096, .bf16⟩
  | .hbm, ⟨1, _⟩ => ⟨S272x4096, .bf16⟩
  | .hbm, ⟨2, _⟩ => ⟨S2176x1536, .fp8e4m3⟩
  | .hbm, ⟨3, _⟩ => ⟨S2176, .f32⟩
  | .hbm, ⟨4, _⟩ => ⟨S2048x32000, .i8⟩
  | .hbm, ⟨5, _⟩ => ⟨S32x32000, .f32⟩
  | .hbm, ⟨6, _⟩ => ⟨S1536x32000, .fp8e4m3⟩
  | .hbm, ⟨7, _⟩ => ⟨S32000, .f32⟩
  | .hbm, ⟨8, _⟩ => ⟨S2176x1, .f32⟩
  | .hbm, ⟨9, _⟩ => ⟨S2176x128, .f32⟩
  | .hbm, ⟨10, _⟩ => ⟨S1x32000, .f32⟩
  | .hbm, ⟨11, _⟩ => ⟨S2176x32000, .f32⟩
  | .hbm, ⟨12, _⟩ => ⟨S272x32000, .f32⟩
  | .hbm, ⟨13, _⟩ => ⟨S2176x32000, .f32⟩
  | .local _ .vmem, ⟨0, _⟩ => ⟨S2176x4096, .bf16⟩
  | .local _ .vmem, ⟨1, _⟩ => ⟨S272x4096, .bf16⟩
  | .local _ .vmem, ⟨2, _⟩ => ⟨S2176x1536, .fp8e4m3⟩
  | .local _ .vmem, ⟨3, _⟩ => ⟨S2176x128, .f32⟩
  | .local _ .vmem, ⟨4, _⟩ => ⟨S2048x256, .i8⟩
  | .local _ .vmem, ⟨5, _⟩ => ⟨S2048x256, .i8⟩
  | .local _ .vmem, ⟨6, _⟩ => ⟨S32x256, .f32⟩
  | .local _ .vmem, ⟨7, _⟩ => ⟨S32x256, .f32⟩
  | .local _ .vmem, ⟨8, _⟩ => ⟨S1536x256, .fp8e4m3⟩
  | .local _ .vmem, ⟨9, _⟩ => ⟨S1536x256, .fp8e4m3⟩
  | .local _ .vmem, ⟨10, _⟩ => ⟨S1x256, .f32⟩
  | .local _ .vmem, ⟨11, _⟩ => ⟨S1x256, .f32⟩
  | .local _ .vmem, ⟨12, _⟩ => ⟨S2176x256, .f32⟩
  | .local _ .vmem, ⟨13, _⟩ => ⟨S2176x256, .f32⟩
  | .local _ .vmem, ⟨14, _⟩ => ⟨S272x256, .f32⟩
  | .local _ .vmem, ⟨15, _⟩ => ⟨S272x256, .f32⟩
  | .local _ .vmem, ⟨16, _⟩ => ⟨S2176x256, .f32⟩
  | .local _ .vmem, ⟨17, _⟩ => ⟨S2176x256, .f32⟩
  | .local _ .vmem, ⟨18, _⟩ => ⟨S4096x256, .bf16⟩
  | _, _ => ⟨S2176x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S272x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2176x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S272x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2176x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== HeadsRefIdeal.lean ====
abbrev S2176x4096 : Shape := ⟨2, ![2176, 4096]⟩
abbrev S272x4096 : Shape := ⟨2, ![272, 4096]⟩
abbrev S2176x1536 : Shape := ⟨2, ![2176, 1536]⟩
abbrev S2176 : Shape := ⟨1, ![2176]⟩
abbrev S2048x32000 : Shape := ⟨2, ![2048, 32000]⟩
abbrev S32x32000 : Shape := ⟨2, ![32, 32000]⟩
abbrev S1536x32000 : Shape := ⟨2, ![1536, 32000]⟩
abbrev S32000 : Shape := ⟨1, ![32000]⟩
abbrev S32x64x32000 : Shape := ⟨3, ![32, 64, 32000]⟩
abbrev S_ : Shape := ⟨0, ![]⟩
abbrev S2176x2048 : Shape := ⟨2, ![2176, 2048]⟩
abbrev S2176x32000 : Shape := ⟨2, ![2176, 32000]⟩
abbrev S272x2048 : Shape := ⟨2, ![272, 2048]⟩
abbrev S272x32000 : Shape := ⟨2, ![272, 32000]⟩
abbrev S2176x1 : Shape := ⟨2, ![2176, 1]⟩
abbrev S1x32000 : Shape := ⟨2, ![1, 32000]⟩

abbrev nBuf : Space → Nat
  | .hbm => 51
  | .vmem => 5
  | .smem => 0
  | _ => 0

abbrev bufTy : (tb : Table) → Fin (tcTables nBuf tb) → BufTy
  | .hbm, ⟨0, _⟩ => ⟨S2176x4096, .bf16⟩
  | .hbm, ⟨1, _⟩ => ⟨S272x4096, .bf16⟩
  | .hbm, ⟨2, _⟩ => ⟨S2176x1536, .fp8e4m3⟩
  | .hbm, ⟨3, _⟩ => ⟨S2176, .f32⟩
  | .hbm, ⟨4, _⟩ => ⟨S2048x32000, .i8⟩
  | .hbm, ⟨5, _⟩ => ⟨S32x32000, .f32⟩
  | .hbm, ⟨6, _⟩ => ⟨S1536x32000, .fp8e4m3⟩
  | .hbm, ⟨7, _⟩ => ⟨S32000, .f32⟩
  | .hbm, ⟨8, _⟩ => ⟨S2048x32000, .i32⟩
  | .hbm, ⟨9, _⟩ => ⟨S32x32000, .bf16⟩
  | .hbm, ⟨10, _⟩ => ⟨S32x64x32000, .bf16⟩
  | .hbm, ⟨11, _⟩ => ⟨S2048x32000, .bf16⟩
  | .hbm, ⟨12, _⟩ => ⟨S_, .i32⟩
  | .hbm, ⟨13, _⟩ => ⟨S2048x32000, .i32⟩
  | .hbm, ⟨14, _⟩ => ⟨S2048x32000, .i32⟩
  | .hbm, ⟨15, _⟩ => ⟨S_, .i32⟩
  | .hbm, ⟨16, _⟩ => ⟨S2048x32000, .i32⟩
  | .hbm, ⟨17, _⟩ => ⟨S2048x32000, .i1⟩
  | .hbm, ⟨18, _⟩ => ⟨S2048x32000, .i32⟩
  | .hbm, ⟨19, _⟩ => ⟨S_, .i32⟩
  | .hbm, ⟨20, _⟩ => ⟨S2048x32000, .i32⟩
  | .hbm, ⟨21, _⟩ => ⟨S2048x32000, .i32⟩
  | .hbm, ⟨22, _⟩ => ⟨S2048x32000, .i32⟩
  | .hbm, ⟨23, _⟩ => ⟨S2048x32000, .bf16⟩
  | .hbm, ⟨24, _⟩ => ⟨S2048x32000, .bf16⟩
  | .hbm, ⟨25, _⟩ => ⟨S_, .i32⟩
  | .hbm, ⟨26, _⟩ => ⟨S2048x32000, .i32⟩
  | .hbm, ⟨27, _⟩ => ⟨S2048x32000, .i32⟩
  | .hbm, ⟨28, _⟩ => ⟨S_, .i32⟩
  | .hbm, ⟨29, _⟩ => ⟨S2048x32000, .i32⟩
  | .hbm, ⟨30, _⟩ => ⟨S2048x32000, .i1⟩
  | .hbm, ⟨31, _⟩ => ⟨S2048x32000, .i32⟩
  | .hbm, ⟨32, _⟩ => ⟨S_, .i32⟩
  | .hbm, ⟨33, _⟩ => ⟨S2048x32000, .i32⟩
  | .hbm, ⟨34, _⟩ => ⟨S2048x32000, .i32⟩
  | .hbm, ⟨35, _⟩ => ⟨S2048x32000, .i32⟩
  | .hbm, ⟨36, _⟩ => ⟨S2048x32000, .bf16⟩
  | .hbm, ⟨37, _⟩ => ⟨S2048x32000, .bf16⟩
  | .hbm, ⟨38, _⟩ => ⟨S2176x2048, .bf16⟩
  | .hbm, ⟨39, _⟩ => ⟨S2176x32000, .f32⟩
  | .hbm, ⟨40, _⟩ => ⟨S2176x2048, .bf16⟩
  | .hbm, ⟨41, _⟩ => ⟨S2176x32000, .f32⟩
  | .hbm, ⟨42, _⟩ => ⟨S2176x32000, .f32⟩
  | .hbm, ⟨43, _⟩ => ⟨S272x2048, .bf16⟩
  | .hbm, ⟨44, _⟩ => ⟨S272x32000, .f32⟩
  | .hbm, ⟨45, _⟩ => ⟨S272x2048, .bf16⟩
  | .hbm, ⟨46, _⟩ => ⟨S272x32000, .f32⟩
  | .hbm, ⟨47, _⟩ => ⟨S272x32000, .f32⟩
  | .hbm, ⟨48, _⟩ => ⟨S2176x1, .f32⟩
  | .hbm, ⟨49, _⟩ => ⟨S1x32000, .f32⟩
  | .hbm, ⟨50, _⟩ => ⟨S2176x32000, .f32⟩
  | .local _ .vmem, ⟨0, _⟩ => ⟨S2176x1536, .fp8e4m3⟩
  | .local _ .vmem, ⟨1, _⟩ => ⟨S2176x1, .f32⟩
  | .local _ .vmem, ⟨2, _⟩ => ⟨S1536x32000, .fp8e4m3⟩
  | .local _ .vmem, ⟨3, _⟩ => ⟨S1x32000, .f32⟩
  | .local _ .vmem, ⟨4, _⟩ => ⟨S2176x32000, .f32⟩
  | _, _ => ⟨S2176x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2176x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2176x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x32000 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2176x32000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Verify.lean ====
abbrev S2176 : Shape := ⟨1, ![2176]⟩
abbrev S2176x1 : Shape := ⟨2, ![2176, 1]⟩
abbrev S2176x32000 : Shape := ⟨2, ![2176, 32000]⟩
abbrev S2176x128 : Shape := ⟨2, ![2176, 128]⟩
abbrev S8x1 : Shape := ⟨2, ![8, 1]⟩
abbrev S8x32000 : Shape := ⟨2, ![8, 32000]⟩
abbrev S8x128 : Shape := ⟨2, ![8, 128]⟩
abbrev S8 : Shape := ⟨1, ![8]⟩
abbrev S1 : Shape := ⟨1, ![1]⟩

abbrev nBuf : Space → Nat
  | .hbm => 5
  | .vmem => 12
  | .smem => 1
  | _ => 0

abbrev bufTy : (tb : Table) → Fin (tcTables nBuf tb) → BufTy
  | .hbm, ⟨0, _⟩ => ⟨S2176x1, .f32⟩
  | .hbm, ⟨1, _⟩ => ⟨S2176x32000, .f32⟩
  | .hbm, ⟨2, _⟩ => ⟨S2176x32000, .f32⟩
  | .hbm, ⟨3, _⟩ => ⟨S2176x32000, .bf16⟩
  | .hbm, ⟨4, _⟩ => ⟨S2176x128, .f32⟩
  | .local _ .vmem, ⟨0, _⟩ => ⟨S8x1, .f32⟩
  | .local _ .vmem, ⟨1, _⟩ => ⟨S8x1, .f32⟩
  | .local _ .vmem, ⟨2, _⟩ => ⟨S8x32000, .f32⟩
  | .local _ .vmem, ⟨3, _⟩ => ⟨S8x32000, .f32⟩
  | .local _ .vmem, ⟨4, _⟩ => ⟨S8x32000, .f32⟩
  | .local _ .vmem, ⟨5, _⟩ => ⟨S8x32000, .f32⟩
  | .local _ .vmem, ⟨6, _⟩ => ⟨S8x32000, .bf16⟩
  | .local _ .vmem, ⟨7, _⟩ => ⟨S8x32000, .bf16⟩
  | .local _ .vmem, ⟨8, _⟩ => ⟨S8x128, .f32⟩
  | .local _ .vmem, ⟨9, _⟩ => ⟨S8x128, .f32⟩
  | .local _ .vmem, ⟨10, _⟩ => ⟨S8x32000, .f32⟩
  | .local _ .vmem, ⟨11, _⟩ => ⟨S8x32000, .f32⟩
  | .local _ .smem, ⟨0, _⟩ => ⟨S2176, .i32⟩
  | _, _ => ⟨S2176x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0_0 : Ref sig .tc := ⟨.hbm, 3, rfl⟩
abbrev main_v0_1 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![272], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c25_i32 : BitVec 32 := 25#32
  let v2 : BitVec 32 := Scalar.addi c0_i32 c25_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32 : BitVec 32 := 1280#32
  let v337 : BitVec 32 := Scalar.muli arg9 c1280_i32
  let c0_i32_131 : BitVec 32 := 0#32
  let v338 : BitVec 32 := Scalar.addi v337 c0_i32_131
  v338
def k0_off1 (k0_t1 : Fin k0_t1_loop.trips) (c0_i32_131 : BitVec 32) : Fin 2 → Nat :=
  let c0_132 : Index := 0#32
  let c0_i32 : BitVec 32 := 0#32
  let c1_i32 : BitVec 32 := 1#32
  let arg9 : BitVec 32 := Scf.iv c0_i32 c1_i32 k0_t1
  let c1280_i32 : BitVec 32 := 1280#32
  let v337 : BitVec 32 := Scalar.muli arg9 c1280_i32
  let v338 : BitVec 32 := Scalar.addi v337 c0_i32_131
  let v339 : BitVec 32 := v338
  let v340 : Index := Scalar.indexCast v339
  ![0, v340.toNat]
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_133 : BitVec 32 := 1280#32
  let v343 : BitVec 32 := Scalar.muli arg9 c1280_i32_133
  let c0_i32_134 : BitVec 32 := 0#32
  let v344 : BitVec 32 := Scalar.addi v343 c0_i32_134
  v344
def k0_mult3 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_136 : BitVec 32 := 1280#32
  let v349 : BitVec 32 := Scalar.muli arg9 c1280_i32_136
  let c128_i32_137 : BitVec 32 := 128#32
  let v350 : BitVec 32 := Scalar.addi v349 c128_i32_137
  v350
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_139 : BitVec 32 := 1280#32
  let v355 : BitVec 32 := Scalar.muli arg9 c1280_i32_139
  let c128_i32_140 : BitVec 32 := 128#32
  let v356 : BitVec 32 := Scalar.addi v355 c128_i32_140
  v356
def k0_mult5 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_142 : BitVec 32 := 1280#32
  let v361 : BitVec 32 := Scalar.muli arg9 c1280_i32_142
  let c256_i32 : BitVec 32 := 256#32
  let v362 : BitVec 32 := Scalar.addi v361 c256_i32
  v362
def k0_mult6 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_144 : BitVec 32 := 1280#32
  let v367 : BitVec 32 := Scalar.muli arg9 c1280_i32_144
  let c256_i32_145 : BitVec 32 := 256#32
  let v368 : BitVec 32 := Scalar.addi v367 c256_i32_145
  v368
def k0_mult7 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_147 : BitVec 32 := 1280#32
  let v373 : BitVec 32 := Scalar.muli arg9 c1280_i32_147
  let c384_i32 : BitVec 32 := 384#32
  let v374 : BitVec 32 := Scalar.addi v373 c384_i32
  v374
def k0_mult8 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_149 : BitVec 32 := 1280#32
  let v379 : BitVec 32 := Scalar.muli arg9 c1280_i32_149
  let c384_i32_150 : BitVec 32 := 384#32
  let v380 : BitVec 32 := Scalar.addi v379 c384_i32_150
  v380
def k0_mult9 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_152 : BitVec 32 := 1280#32
  let v385 : BitVec 32 := Scalar.muli arg9 c1280_i32_152
  let c512_i32 : BitVec 32 := 512#32
  let v386 : BitVec 32 := Scalar.addi v385 c512_i32
  v386
def k0_mult10 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_154 : BitVec 32 := 1280#32
  let v391 : BitVec 32 := Scalar.muli arg9 c1280_i32_154
  let c512_i32_155 : BitVec 32 := 512#32
  let v392 : BitVec 32 := Scalar.addi v391 c512_i32_155
  v392
def k0_mult11 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_157 : BitVec 32 := 1280#32
  let v397 : BitVec 32 := Scalar.muli arg9 c1280_i32_157
  let c640_i32 : BitVec 32 := 640#32
  let v398 : BitVec 32 := Scalar.addi v397 c640_i32
  v398
def k0_mult12 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_159 : BitVec 32 := 1280#32
  let v403 : BitVec 32 := Scalar.muli arg9 c1280_i32_159
  let c640_i32_160 : BitVec 32 := 640#32
  let v404 : BitVec 32 := Scalar.addi v403 c640_i32_160
  v404
def k0_mult13 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_162 : BitVec 32 := 1280#32
  let v409 : BitVec 32 := Scalar.muli arg9 c1280_i32_162
  let c768_i32 : BitVec 32 := 768#32
  let v410 : BitVec 32 := Scalar.addi v409 c768_i32
  v410
def k0_mult14 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_164 : BitVec 32 := 1280#32
  let v415 : BitVec 32 := Scalar.muli arg9 c1280_i32_164
  let c768_i32_165 : BitVec 32 := 768#32
  let v416 : BitVec 32 := Scalar.addi v415 c768_i32_165
  v416
def k0_mult15 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_167 : BitVec 32 := 1280#32
  let v421 : BitVec 32 := Scalar.muli arg9 c1280_i32_167
  let c896_i32 : BitVec 32 := 896#32
  let v422 : BitVec 32 := Scalar.addi v421 c896_i32
  v422
def k0_mult16 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_169 : BitVec 32 := 1280#32
  let v427 : BitVec 32 := Scalar.muli arg9 c1280_i32_169
  let c896_i32_170 : BitVec 32 := 896#32
  let v428 : BitVec 32 := Scalar.addi v427 c896_i32_170
  v428
def k0_mult17 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_172 : BitVec 32 := 1280#32
  let v433 : BitVec 32 := Scalar.muli arg9 c1280_i32_172
  let c1024_i32 : BitVec 32 := 1024#32
  let v434 : BitVec 32 := Scalar.addi v433 c1024_i32
  v434
def k0_mult18 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_174 : BitVec 32 := 1280#32
  let v439 : BitVec 32 := Scalar.muli arg9 c1280_i32_174
  let c1024_i32_175 : BitVec 32 := 1024#32
  let v440 : BitVec 32 := Scalar.addi v439 c1024_i32_175
  v440
def k0_mult19 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_177 : BitVec 32 := 1280#32
  let v445 : BitVec 32 := Scalar.muli arg9 c1280_i32_177
  let c1152_i32 : BitVec 32 := 1152#32
  let v446 : BitVec 32 := Scalar.addi v445 c1152_i32
  v446
def k0_mult20 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32_179 : BitVec 32 := 1280#32
  let v451 : BitVec 32 := Scalar.muli arg9 c1280_i32_179
  let c1152_i32_180 : BitVec 32 := 1152#32
  let v452 : BitVec 32 := Scalar.addi v451 c1152_i32_180
  v452
@[reducible] def k0_t2_loop : Scf.Loop 32 :=
  let c0_i32_6 : BitVec 32 := 0#32
  let c25_i32_7 : BitVec 32 := 25#32
  let v10 : BitVec 32 := Scalar.addi c0_i32_6 c25_i32_7
  let c1_i32_8 : BitVec 32 := 1#32
  ⟨c0_i32_6, v10, c1_i32_8⟩
def k0_mult21 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32 : BitVec 32 := 1280#32
  let v337 : BitVec 32 := Scalar.muli arg9 c1280_i32
  let c0_i32_131 : BitVec 32 := 0#32
  let v338 : BitVec 32 := Scalar.addi v337 c0_i32_131
  v338
def k0_off2 (k0_t2 : Fin k0_t2_loop.trips) (c0_i32_131 : BitVec 32) : Fin 2 → Nat :=
  let c0_132 : Index := 0#32
  let c0_i32_6 : BitVec 32 := 0#32
  let c1_i32_8 : BitVec 32 := 1#32
  let arg9 : BitVec 32 := Scf.iv c0_i32_6 c1_i32_8 k0_t2
  let c1280_i32 : BitVec 32 := 1280#32
  let v337 : BitVec 32 := Scalar.muli arg9 c1280_i32
  let v338 : BitVec 32 := Scalar.addi v337 c0_i32_131
  let v339 : BitVec 32 := v338
  let v340 : Index := Scalar.indexCast v339
  ![0, v340.toNat]
def k0_mult22 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_133 : BitVec 32 := 1280#32
  let v345 : BitVec 32 := Scalar.muli arg9 c1280_i32_133
  let c0_i32_134 : BitVec 32 := 0#32
  let v346 : BitVec 32 := Scalar.addi v345 c0_i32_134
  v346
def k0_mult23 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_136 : BitVec 32 := 1280#32
  let v353 : BitVec 32 := Scalar.muli arg9 c1280_i32_136
  let c0_i32_137 : BitVec 32 := 0#32
  let v354 : BitVec 32 := Scalar.addi v353 c0_i32_137
  v354
def k0_mult24 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_139 : BitVec 32 := 1280#32
  let v360 : BitVec 32 := Scalar.muli arg9 c1280_i32_139
  let c0_i32_140 : BitVec 32 := 0#32
  let v361 : BitVec 32 := Scalar.addi v360 c0_i32_140
  v361
def k0_mult25 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_142 : BitVec 32 := 1280#32
  let v369 : BitVec 32 := Scalar.muli arg9 c1280_i32_142
  let c128_i32_143 : BitVec 32 := 128#32
  let v370 : BitVec 32 := Scalar.addi v369 c128_i32_143
  v370
def k0_mult26 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_145 : BitVec 32 := 1280#32
  let v377 : BitVec 32 := Scalar.muli arg9 c1280_i32_145
  let c128_i32_146 : BitVec 32 := 128#32
  let v378 : BitVec 32 := Scalar.addi v377 c128_i32_146
  v378
def k0_mult27 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_148 : BitVec 32 := 1280#32
  let v385 : BitVec 32 := Scalar.muli arg9 c1280_i32_148
  let c128_i32_149 : BitVec 32 := 128#32
  let v386 : BitVec 32 := Scalar.addi v385 c128_i32_149
  v386
def k0_mult28 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_151 : BitVec 32 := 1280#32
  let v392 : BitVec 32 := Scalar.muli arg9 c1280_i32_151
  let c128_i32_152 : BitVec 32 := 128#32
  let v393 : BitVec 32 := Scalar.addi v392 c128_i32_152
  v393
def k0_mult29 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_154 : BitVec 32 := 1280#32
  let v401 : BitVec 32 := Scalar.muli arg9 c1280_i32_154
  let c256_i32 : BitVec 32 := 256#32
  let v402 : BitVec 32 := Scalar.addi v401 c256_i32
  v402
def k0_mult30 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_156 : BitVec 32 := 1280#32
  let v409 : BitVec 32 := Scalar.muli arg9 c1280_i32_156
  let c256_i32_157 : BitVec 32 := 256#32
  let v410 : BitVec 32 := Scalar.addi v409 c256_i32_157
  v410
def k0_mult31 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_159 : BitVec 32 := 1280#32
  let v417 : BitVec 32 := Scalar.muli arg9 c1280_i32_159
  let c256_i32_160 : BitVec 32 := 256#32
  let v418 : BitVec 32 := Scalar.addi v417 c256_i32_160
  v418
def k0_mult32 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_162 : BitVec 32 := 1280#32
  let v424 : BitVec 32 := Scalar.muli arg9 c1280_i32_162
  let c256_i32_163 : BitVec 32 := 256#32
  let v425 : BitVec 32 := Scalar.addi v424 c256_i32_163
  v425
def k0_mult33 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_165 : BitVec 32 := 1280#32
  let v433 : BitVec 32 := Scalar.muli arg9 c1280_i32_165
  let c384_i32 : BitVec 32 := 384#32
  let v434 : BitVec 32 := Scalar.addi v433 c384_i32
  v434
def k0_mult34 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_167 : BitVec 32 := 1280#32
  let v441 : BitVec 32 := Scalar.muli arg9 c1280_i32_167
  let c384_i32_168 : BitVec 32 := 384#32
  let v442 : BitVec 32 := Scalar.addi v441 c384_i32_168
  v442
def k0_mult35 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_170 : BitVec 32 := 1280#32
  let v449 : BitVec 32 := Scalar.muli arg9 c1280_i32_170
  let c384_i32_171 : BitVec 32 := 384#32
  let v450 : BitVec 32 := Scalar.addi v449 c384_i32_171
  v450
def k0_mult36 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_173 : BitVec 32 := 1280#32
  let v456 : BitVec 32 := Scalar.muli arg9 c1280_i32_173
  let c384_i32_174 : BitVec 32 := 384#32
  let v457 : BitVec 32 := Scalar.addi v456 c384_i32_174
  v457
def k0_mult37 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_176 : BitVec 32 := 1280#32
  let v465 : BitVec 32 := Scalar.muli arg9 c1280_i32_176
  let c512_i32 : BitVec 32 := 512#32
  let v466 : BitVec 32 := Scalar.addi v465 c512_i32
  v466
def k0_mult38 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_178 : BitVec 32 := 1280#32
  let v473 : BitVec 32 := Scalar.muli arg9 c1280_i32_178
  let c512_i32_179 : BitVec 32 := 512#32
  let v474 : BitVec 32 := Scalar.addi v473 c512_i32_179
  v474
def k0_mult39 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_181 : BitVec 32 := 1280#32
  let v481 : BitVec 32 := Scalar.muli arg9 c1280_i32_181
  let c512_i32_182 : BitVec 32 := 512#32
  let v482 : BitVec 32 := Scalar.addi v481 c512_i32_182
  v482
def k0_mult40 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_184 : BitVec 32 := 1280#32
  let v488 : BitVec 32 := Scalar.muli arg9 c1280_i32_184
  let c512_i32_185 : BitVec 32 := 512#32
  let v489 : BitVec 32 := Scalar.addi v488 c512_i32_185
  v489
def k0_mult41 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_187 : BitVec 32 := 1280#32
  let v497 : BitVec 32 := Scalar.muli arg9 c1280_i32_187
  let c640_i32 : BitVec 32 := 640#32
  let v498 : BitVec 32 := Scalar.addi v497 c640_i32
  v498
def k0_mult42 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_189 : BitVec 32 := 1280#32
  let v505 : BitVec 32 := Scalar.muli arg9 c1280_i32_189
  let c640_i32_190 : BitVec 32 := 640#32
  let v506 : BitVec 32 := Scalar.addi v505 c640_i32_190
  v506
def k0_mult43 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_192 : BitVec 32 := 1280#32
  let v513 : BitVec 32 := Scalar.muli arg9 c1280_i32_192
  let c640_i32_193 : BitVec 32 := 640#32
  let v514 : BitVec 32 := Scalar.addi v513 c640_i32_193
  v514
def k0_mult44 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_195 : BitVec 32 := 1280#32
  let v520 : BitVec 32 := Scalar.muli arg9 c1280_i32_195
  let c640_i32_196 : BitVec 32 := 640#32
  let v521 : BitVec 32 := Scalar.addi v520 c640_i32_196
  v521
def k0_mult45 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_198 : BitVec 32 := 1280#32
  let v529 : BitVec 32 := Scalar.muli arg9 c1280_i32_198
  let c768_i32 : BitVec 32 := 768#32
  let v530 : BitVec 32 := Scalar.addi v529 c768_i32
  v530
def k0_mult46 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_200 : BitVec 32 := 1280#32
  let v537 : BitVec 32 := Scalar.muli arg9 c1280_i32_200
  let c768_i32_201 : BitVec 32 := 768#32
  let v538 : BitVec 32 := Scalar.addi v537 c768_i32_201
  v538
def k0_mult47 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_203 : BitVec 32 := 1280#32
  let v545 : BitVec 32 := Scalar.muli arg9 c1280_i32_203
  let c768_i32_204 : BitVec 32 := 768#32
  let v546 : BitVec 32 := Scalar.addi v545 c768_i32_204
  v546
def k0_mult48 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_206 : BitVec 32 := 1280#32
  let v552 : BitVec 32 := Scalar.muli arg9 c1280_i32_206
  let c768_i32_207 : BitVec 32 := 768#32
  let v553 : BitVec 32 := Scalar.addi v552 c768_i32_207
  v553
def k0_mult49 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_209 : BitVec 32 := 1280#32
  let v561 : BitVec 32 := Scalar.muli arg9 c1280_i32_209
  let c896_i32 : BitVec 32 := 896#32
  let v562 : BitVec 32 := Scalar.addi v561 c896_i32
  v562
def k0_mult50 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_211 : BitVec 32 := 1280#32
  let v569 : BitVec 32 := Scalar.muli arg9 c1280_i32_211
  let c896_i32_212 : BitVec 32 := 896#32
  let v570 : BitVec 32 := Scalar.addi v569 c896_i32_212
  v570
def k0_mult51 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_214 : BitVec 32 := 1280#32
  let v577 : BitVec 32 := Scalar.muli arg9 c1280_i32_214
  let c896_i32_215 : BitVec 32 := 896#32
  let v578 : BitVec 32 := Scalar.addi v577 c896_i32_215
  v578
def k0_mult52 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_217 : BitVec 32 := 1280#32
  let v584 : BitVec 32 := Scalar.muli arg9 c1280_i32_217
  let c896_i32_218 : BitVec 32 := 896#32
  let v585 : BitVec 32 := Scalar.addi v584 c896_i32_218
  v585
def k0_mult53 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_220 : BitVec 32 := 1280#32
  let v593 : BitVec 32 := Scalar.muli arg9 c1280_i32_220
  let c1024_i32 : BitVec 32 := 1024#32
  let v594 : BitVec 32 := Scalar.addi v593 c1024_i32
  v594
def k0_mult54 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_222 : BitVec 32 := 1280#32
  let v601 : BitVec 32 := Scalar.muli arg9 c1280_i32_222
  let c1024_i32_223 : BitVec 32 := 1024#32
  let v602 : BitVec 32 := Scalar.addi v601 c1024_i32_223
  v602
def k0_mult55 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_225 : BitVec 32 := 1280#32
  let v609 : BitVec 32 := Scalar.muli arg9 c1280_i32_225
  let c1024_i32_226 : BitVec 32 := 1024#32
  let v610 : BitVec 32 := Scalar.addi v609 c1024_i32_226
  v610
def k0_mult56 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_228 : BitVec 32 := 1280#32
  let v616 : BitVec 32 := Scalar.muli arg9 c1280_i32_228
  let c1024_i32_229 : BitVec 32 := 1024#32
  let v617 : BitVec 32 := Scalar.addi v616 c1024_i32_229
  v617
def k0_mult57 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_231 : BitVec 32 := 1280#32
  let v625 : BitVec 32 := Scalar.muli arg9 c1280_i32_231
  let c1152_i32 : BitVec 32 := 1152#32
  let v626 : BitVec 32 := Scalar.addi v625 c1152_i32
  v626
def k0_mult58 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_233 : BitVec 32 := 1280#32
  let v633 : BitVec 32 := Scalar.muli arg9 c1280_i32_233
  let c1152_i32_234 : BitVec 32 := 1152#32
  let v634 : BitVec 32 := Scalar.addi v633 c1152_i32_234
  v634
def k0_mult59 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_236 : BitVec 32 := 1280#32
  let v641 : BitVec 32 := Scalar.muli arg9 c1280_i32_236
  let c1152_i32_237 : BitVec 32 := 1152#32
  let v642 : BitVec 32 := Scalar.addi v641 c1152_i32_237
  v642
def k0_mult60 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c1280_i32_239 : BitVec 32 := 1280#32
  let v648 : BitVec 32 := Scalar.muli arg9 c1280_i32_239
  let c1152_i32_240 : BitVec 32 := 1152#32
  let v649 : BitVec 32 := Scalar.addi v648 c1152_i32_240
  v649
def k0_off3 (i : grid0.Coords) : Fin 1 → Nat :=
  let arg0 : BitVec 32 := BitVec.ofNat 32 (i 0).val
  let c8_i32 : BitVec 32 := 8#32
  let v24 : BitVec 32 := Scalar.muli arg0 c8_i32
  let c0_i32_16 : BitVec 32 := 0#32
  let v25 : BitVec 32 := Scalar.addi v24 c0_i32_16
  let v26 : Index := Scalar.indexCast v25
  ![v26.toNat]
def k0_mult61 (v27 : BitVec 32) : BitVec 32 :=
  let c0_i32_17 : BitVec 32 := 0#32
  let v29 : BitVec 1 := Scalar.cmpi .sgt v27 c0_i32_17
  let v30 : BitVec 32 := Scalar.extui v29
  let c0_i32_18 : BitVec 32 := 0#32
  let v31 : BitVec 1 := Scalar.cmpi .slt v27 c0_i32_18
  let v32 : BitVec 32 := Scalar.extui v31
  let v33 : BitVec 32 := Scalar.subi v30 v32
  let c128_i32 : BitVec 32 := 128#32
  let c0_i32_19 : BitVec 32 := 0#32
  let v34 : BitVec 1 := Scalar.cmpi .sgt c128_i32 c0_i32_19
  let v35 : BitVec 32 := Scalar.extui v34
  let c0_i32_20 : BitVec 32 := 0#32
  let v36 : BitVec 1 := Scalar.cmpi .slt c128_i32 c0_i32_20
  let v37 : BitVec 32 := Scalar.extui v36
  let v38 : BitVec 32 := Scalar.subi v35 v37
  let v39 : BitVec 1 := Scalar.cmpi .ne v33 v38
  let v40 : BitVec 32 := Scalar.remsi v27 c128_i32
  let c0_i32_21 : BitVec 32 := 0#32
  let v41 : BitVec 1 := Scalar.cmpi .ne v40 c0_i32_21
  let v42 : BitVec 1 := Scalar.andi v39 v41
  let v28 : BitVec 32 := Scalar.divsi v27 c128_i32
  let c1_i32_22 : BitVec 32 := 1#32
  let v43 : BitVec 32 := Scalar.subi v28 c1_i32_22
  let v44 : BitVec 32 := Scalar.select v42 v43 v28
  let c128_i32_23 : BitVec 32 := 128#32
  let v45 : BitVec 32 := Scalar.muli v44 c128_i32_23
  v45

def k0_off4 (v27 : BitVec 32) : Fin 2 → Nat :=
  let c0 : Index := 0#32
  let c0_i32_17 : BitVec 32 := 0#32
  let v29 : BitVec 1 := Scalar.cmpi .sgt v27 c0_i32_17
  let v30 : BitVec 32 := Scalar.extui v29
  let c0_i32_18 : BitVec 32 := 0#32
  let v31 : BitVec 1 := Scalar.cmpi .slt v27 c0_i32_18
  let v32 : BitVec 32 := Scalar.extui v31
  let v33 : BitVec 32 := Scalar.subi v30 v32
  let c128_i32 : BitVec 32 := 128#32
  let c0_i32_19 : BitVec 32 := 0#32
  let v34 : BitVec 1 := Scalar.cmpi .sgt c128_i32 c0_i32_19
  let v35 : BitVec 32 := Scalar.extui v34
  let c0_i32_20 : BitVec 32 := 0#32
  let v36 : BitVec 1 := Scalar.cmpi .slt c128_i32 c0_i32_20
  let v37 : BitVec 32 := Scalar.extui v36
  let v38 : BitVec 32 := Scalar.subi v35 v37
  let v39 : BitVec 1 := Scalar.cmpi .ne v33 v38
  let v40 : BitVec 32 := Scalar.remsi v27 c128_i32
  let c0_i32_21 : BitVec 32 := 0#32
  let v41 : BitVec 1 := Scalar.cmpi .ne v40 c0_i32_21
  let v42 : BitVec 1 := Scalar.andi v39 v41
  let v28 : BitVec 32 := Scalar.divsi v27 c128_i32
  let c1_i32_22 : BitVec 32 := 1#32
  let v43 : BitVec 32 := Scalar.subi v28 c1_i32_22
  let v44 : BitVec 32 := Scalar.select v42 v43 v28
  let c128_i32_23 : BitVec 32 := 128#32
  let v45 : BitVec 32 := Scalar.muli v44 c128_i32_23
  let v46 : BitVec 32 := v45
  let v53 : Index := Scalar.indexCast v46
  ![0, v53.toNat]

def k0_chk1 (v27 : BitVec 32) : Prop :=
  (128 ∣ (k0_mult61 v27).toNat) ∧
  (∀ a, (k0_off4 v27) a + S8x128.size a ≤ S8x32000.size a)
theorem k0_mult61_dvd : ∀ (v27 : BitVec 32) (k0_hw1 : k0_chk1 v27), 128 ∣ (k0_mult61 v27).toNat := fun v27 k0_hw1 => k0_hw1.1
theorem k0_off4_inb : ∀ (v27 : BitVec 32) (k0_hw1 : k0_chk1 v27), ∀ a, (k0_off4 v27) a + S8x128.size a ≤ S8x32000.size a := fun v27 k0_hw1 => k0_hw1.2

def k0_off5 (i : grid0.Coords) : Fin 1 → Nat :=
  let arg0 : BitVec 32 := BitVec.ofNat 32 (i 0).val
  let c8_i32_26 : BitVec 32 := 8#32
  let v59 : BitVec 32 := Scalar.muli arg0 c8_i32_26
  let c1_i32_27 : BitVec 32 := 1#32
  let v60 : BitVec 32 := Scalar.addi v59 c1_i32_27
  let v61 : Index := Scalar.indexCast v60
  ![v61.toNat]
def k0_mult62 (v62 : BitVec 32) : BitVec 32 :=
  let c0_i32_29 : BitVec 32 := 0#32
  let v64 : BitVec 1 := Scalar.cmpi .sgt v62 c0_i32_29
  let v65 : BitVec 32 := Scalar.extui v64
  let c0_i32_30 : BitVec 32 := 0#32
  let v66 : BitVec 1 := Scalar.cmpi .slt v62 c0_i32_30
  let v67 : BitVec 32 := Scalar.extui v66
  let v68 : BitVec 32 := Scalar.subi v65 v67
  let c128_i32_28 : BitVec 32 := 128#32
  let c0_i32_31 : BitVec 32 := 0#32
  let v69 : BitVec 1 := Scalar.cmpi .sgt c128_i32_28 c0_i32_31
  let v70 : BitVec 32 := Scalar.extui v69
  let c0_i32_32 : BitVec 32 := 0#32
  let v71 : BitVec 1 := Scalar.cmpi .slt c128_i32_28 c0_i32_32
  let v72 : BitVec 32 := Scalar.extui v71
  let v73 : BitVec 32 := Scalar.subi v70 v72
  let v74 : BitVec 1 := Scalar.cmpi .ne v68 v73
  let v75 : BitVec 32 := Scalar.remsi v62 c128_i32_28
  let c0_i32_33 : BitVec 32 := 0#32
  let v76 : BitVec 1 := Scalar.cmpi .ne v75 c0_i32_33
  let v77 : BitVec 1 := Scalar.andi v74 v76
  let v63 : BitVec 32 := Scalar.divsi v62 c128_i32_28
  let c1_i32_34 : BitVec 32 := 1#32
  let v78 : BitVec 32 := Scalar.subi v63 c1_i32_34
  let v79 : BitVec 32 := Scalar.select v77 v78 v63
  let c128_i32_35 : BitVec 32 := 128#32
  let v80 : BitVec 32 := Scalar.muli v79 c128_i32_35
  v80

def k0_off6 (v62 : BitVec 32) : Fin 2 → Nat :=
  let c0_37 : Index := 0#32
  let c0_i32_29 : BitVec 32 := 0#32
  let v64 : BitVec 1 := Scalar.cmpi .sgt v62 c0_i32_29
  let v65 : BitVec 32 := Scalar.extui v64
  let c0_i32_30 : BitVec 32 := 0#32
  let v66 : BitVec 1 := Scalar.cmpi .slt v62 c0_i32_30
  let v67 : BitVec 32 := Scalar.extui v66
  let v68 : BitVec 32 := Scalar.subi v65 v67
  let c128_i32_28 : BitVec 32 := 128#32
  let c0_i32_31 : BitVec 32 := 0#32
  let v69 : BitVec 1 := Scalar.cmpi .sgt c128_i32_28 c0_i32_31
  let v70 : BitVec 32 := Scalar.extui v69
  let c0_i32_32 : BitVec 32 := 0#32
  let v71 : BitVec 1 := Scalar.cmpi .slt c128_i32_28 c0_i32_32
  let v72 : BitVec 32 := Scalar.extui v71
  let v73 : BitVec 32 := Scalar.subi v70 v72
  let v74 : BitVec 1 := Scalar.cmpi .ne v68 v73
  let v75 : BitVec 32 := Scalar.remsi v62 c128_i32_28
  let c0_i32_33 : BitVec 32 := 0#32
  let v76 : BitVec 1 := Scalar.cmpi .ne v75 c0_i32_33
  let v77 : BitVec 1 := Scalar.andi v74 v76
  let v63 : BitVec 32 := Scalar.divsi v62 c128_i32_28
  let c1_i32_34 : BitVec 32 := 1#32
  let v78 : BitVec 32 := Scalar.subi v63 c1_i32_34
  let v79 : BitVec 32 := Scalar.select v77 v78 v63
  let c128_i32_35 : BitVec 32 := 128#32
  let v80 : BitVec 32 := Scalar.muli v79 c128_i32_35
  let v81 : BitVec 32 := v80
  let v88 : Index := Scalar.indexCast v81
  ![0, v88.toNat]

def k0_chk2 (v62 : BitVec 32) : Prop :=
  (128 ∣ (k0_mult62 v62).toNat) ∧
  (∀ a, (k0_off6 v62) a + S8x128.size a ≤ S8x32000.size a)
theorem k0_mult62_dvd : ∀ (v62 : BitVec 32) (k0_hw2 : k0_chk2 v62), 128 ∣ (k0_mult62 v62).toNat := fun v62 k0_hw2 => k0_hw2.1
theorem k0_off6_inb : ∀ (v62 : BitVec 32) (k0_hw2 : k0_chk2 v62), ∀ a, (k0_off6 v62) a + S8x128.size a ≤ S8x32000.size a := fun v62 k0_hw2 => k0_hw2.2

def k0_off7 (i : grid0.Coords) : Fin 1 → Nat :=
  let arg0 : BitVec 32 := BitVec.ofNat 32 (i 0).val
  let c8_i32_39 : BitVec 32 := 8#32
  let v94 : BitVec 32 := Scalar.muli arg0 c8_i32_39
  let c2_i32 : BitVec 32 := 2#32
  let v95 : BitVec 32 := Scalar.addi v94 c2_i32
  let v96 : Index := Scalar.indexCast v95
  ![v96.toNat]
def k0_mult63 (v97 : BitVec 32) : BitVec 32 :=
  let c0_i32_41 : BitVec 32 := 0#32
  let v99 : BitVec 1 := Scalar.cmpi .sgt v97 c0_i32_41
  let v100 : BitVec 32 := Scalar.extui v99
  let c0_i32_42 : BitVec 32 := 0#32
  let v101 : BitVec 1 := Scalar.cmpi .slt v97 c0_i32_42
  let v102 : BitVec 32 := Scalar.extui v101
  let v103 : BitVec 32 := Scalar.subi v100 v102
  let c128_i32_40 : BitVec 32 := 128#32
  let c0_i32_43 : BitVec 32 := 0#32
  let v104 : BitVec 1 := Scalar.cmpi .sgt c128_i32_40 c0_i32_43
  let v105 : BitVec 32 := Scalar.extui v104
  let c0_i32_44 : BitVec 32 := 0#32
  let v106 : BitVec 1 := Scalar.cmpi .slt c128_i32_40 c0_i32_44
  let v107 : BitVec 32 := Scalar.extui v106
  let v108 : BitVec 32 := Scalar.subi v105 v107
  let v109 : BitVec 1 := Scalar.cmpi .ne v103 v108
  let v110 : BitVec 32 := Scalar.remsi v97 c128_i32_40
  let c0_i32_45 : BitVec 32 := 0#32
  let v111 : BitVec 1 := Scalar.cmpi .ne v110 c0_i32_45
  let v112 : BitVec 1 := Scalar.andi v109 v111
  let v98 : BitVec 32 := Scalar.divsi v97 c128_i32_40
  let c1_i32_46 : BitVec 32 := 1#32
  let v113 : BitVec 32 := Scalar.subi v98 c1_i32_46
  let v114 : BitVec 32 := Scalar.select v112 v113 v98
  let c128_i32_47 : BitVec 32 := 128#32
  let v115 : BitVec 32 := Scalar.muli v114 c128_i32_47
  v115

def k0_off8 (v97 : BitVec 32) : Fin 2 → Nat :=
  let c0_49 : Index := 0#32
  let c0_i32_41 : BitVec 32 := 0#32
  let v99 : BitVec 1 := Scalar.cmpi .sgt v97 c0_i32_41
  let v100 : BitVec 32 := Scalar.extui v99
  let c0_i32_42 : BitVec 32 := 0#32
  let v101 : BitVec 1 := Scalar.cmpi .slt v97 c0_i32_42
  let v102 : BitVec 32 := Scalar.extui v101
  let v103 : BitVec 32 := Scalar.subi v100 v102
  let c128_i32_40 : BitVec 32 := 128#32
  let c0_i32_43 : BitVec 32 := 0#32
  let v104 : BitVec 1 := Scalar.cmpi .sgt c128_i32_40 c0_i32_43
  let v105 : BitVec 32 := Scalar.extui v104
  let c0_i32_44 : BitVec 32 := 0#32
  let v106 : BitVec 1 := Scalar.cmpi .slt c128_i32_40 c0_i32_44
  let v107 : BitVec 32 := Scalar.extui v106
  let v108 : BitVec 32 := Scalar.subi v105 v107
  let v109 : BitVec 1 := Scalar.cmpi .ne v103 v108
  let v110 : BitVec 32 := Scalar.remsi v97 c128_i32_40
  let c0_i32_45 : BitVec 32 := 0#32
  let v111 : BitVec 1 := Scalar.cmpi .ne v110 c0_i32_45
  let v112 : BitVec 1 := Scalar.andi v109 v111
  let v98 : BitVec 32 := Scalar.divsi v97 c128_i32_40
  let c1_i32_46 : BitVec 32 := 1#32
  let v113 : BitVec 32 := Scalar.subi v98 c1_i32_46
  let v114 : BitVec 32 := Scalar.select v112 v113 v98
  let c128_i32_47 : BitVec 32 := 128#32
  let v115 : BitVec 32 := Scalar.muli v114 c128_i32_47
  let v116 : BitVec 32 := v115
  let v123 : Index := Scalar.indexCast v116
  ![0, v123.toNat]

def k0_chk3 (v97 : BitVec 32) : Prop :=
  (128 ∣ (k0_mult63 v97).toNat) ∧
  (∀ a, (k0_off8 v97) a + S8x128.size a ≤ S8x32000.size a)
theorem k0_mult63_dvd : ∀ (v97 : BitVec 32) (k0_hw3 : k0_chk3 v97), 128 ∣ (k0_mult63 v97).toNat := fun v97 k0_hw3 => k0_hw3.1
theorem k0_off8_inb : ∀ (v97 : BitVec 32) (k0_hw3 : k0_chk3 v97), ∀ a, (k0_off8 v97) a + S8x128.size a ≤ S8x32000.size a := fun v97 k0_hw3 => k0_hw3.2

def k0_off9 (i : grid0.Coords) : Fin 1 → Nat :=
  let arg0 : BitVec 32 := BitVec.ofNat 32 (i 0).val
  let c8_i32_51 : BitVec 32 := 8#32
  let v129 : BitVec 32 := Scalar.muli arg0 c8_i32_51
  let c3_i32 : BitVec 32 := 3#32
  let v130 : BitVec 32 := Scalar.addi v129 c3_i32
  let v131 : Index := Scalar.indexCast v130
  ![v131.toNat]
def k0_mult64 (v132 : BitVec 32) : BitVec 32 :=
  let c0_i32_53 : BitVec 32 := 0#32
  let v134 : BitVec 1 := Scalar.cmpi .sgt v132 c0_i32_53
  let v135 : BitVec 32 := Scalar.extui v134
  let c0_i32_54 : BitVec 32 := 0#32
  let v136 : BitVec 1 := Scalar.cmpi .slt v132 c0_i32_54
  let v137 : BitVec 32 := Scalar.extui v136
  let v138 : BitVec 32 := Scalar.subi v135 v137
  let c128_i32_52 : BitVec 32 := 128#32
  let c0_i32_55 : BitVec 32 := 0#32
  let v139 : BitVec 1 := Scalar.cmpi .sgt c128_i32_52 c0_i32_55
  let v140 : BitVec 32 := Scalar.extui v139
  let c0_i32_56 : BitVec 32 := 0#32
  let v141 : BitVec 1 := Scalar.cmpi .slt c128_i32_52 c0_i32_56
  let v142 : BitVec 32 := Scalar.extui v141
  let v143 : BitVec 32 := Scalar.subi v140 v142
  let v144 : BitVec 1 := Scalar.cmpi .ne v138 v143
  let v145 : BitVec 32 := Scalar.remsi v132 c128_i32_52
  let c0_i32_57 : BitVec 32 := 0#32
  let v146 : BitVec 1 := Scalar.cmpi .ne v145 c0_i32_57
  let v147 : BitVec 1 := Scalar.andi v144 v146
  let v133 : BitVec 32 := Scalar.divsi v132 c128_i32_52
  let c1_i32_58 : BitVec 32 := 1#32
  let v148 : BitVec 32 := Scalar.subi v133 c1_i32_58
  let v149 : BitVec 32 := Scalar.select v147 v148 v133
  let c128_i32_59 : BitVec 32 := 128#32
  let v150 : BitVec 32 := Scalar.muli v149 c128_i32_59
  v150

def k0_off10 (v132 : BitVec 32) : Fin 2 → Nat :=
  let c0_61 : Index := 0#32
  let c0_i32_53 : BitVec 32 := 0#32
  let v134 : BitVec 1 := Scalar.cmpi .sgt v132 c0_i32_53
  let v135 : BitVec 32 := Scalar.extui v134
  let c0_i32_54 : BitVec 32 := 0#32
  let v136 : BitVec 1 := Scalar.cmpi .slt v132 c0_i32_54
  let v137 : BitVec 32 := Scalar.extui v136
  let v138 : BitVec 32 := Scalar.subi v135 v137
  let c128_i32_52 : BitVec 32 := 128#32
  let c0_i32_55 : BitVec 32 := 0#32
  let v139 : BitVec 1 := Scalar.cmpi .sgt c128_i32_52 c0_i32_55
  let v140 : BitVec 32 := Scalar.extui v139
  let c0_i32_56 : BitVec 32 := 0#32
  let v141 : BitVec 1 := Scalar.cmpi .slt c128_i32_52 c0_i32_56
  let v142 : BitVec 32 := Scalar.extui v141
  let v143 : BitVec 32 := Scalar.subi v140 v142
  let v144 : BitVec 1 := Scalar.cmpi .ne v138 v143
  let v145 : BitVec 32 := Scalar.remsi v132 c128_i32_52
  let c0_i32_57 : BitVec 32 := 0#32
  let v146 : BitVec 1 := Scalar.cmpi .ne v145 c0_i32_57
  let v147 : BitVec 1 := Scalar.andi v144 v146
  let v133 : BitVec 32 := Scalar.divsi v132 c128_i32_52
  let c1_i32_58 : BitVec 32 := 1#32
  let v148 : BitVec 32 := Scalar.subi v133 c1_i32_58
  let v149 : BitVec 32 := Scalar.select v147 v148 v133
  let c128_i32_59 : BitVec 32 := 128#32
  let v150 : BitVec 32 := Scalar.muli v149 c128_i32_59
  let v151 : BitVec 32 := v150
  let v158 : Index := Scalar.indexCast v151
  ![0, v158.toNat]

def k0_chk4 (v132 : BitVec 32) : Prop :=
  (128 ∣ (k0_mult64 v132).toNat) ∧
  (∀ a, (k0_off10 v132) a + S8x128.size a ≤ S8x32000.size a)
theorem k0_mult64_dvd : ∀ (v132 : BitVec 32) (k0_hw4 : k0_chk4 v132), 128 ∣ (k0_mult64 v132).toNat := fun v132 k0_hw4 => k0_hw4.1
theorem k0_off10_inb : ∀ (v132 : BitVec 32) (k0_hw4 : k0_chk4 v132), ∀ a, (k0_off10 v132) a + S8x128.size a ≤ S8x32000.size a := fun v132 k0_hw4 => k0_hw4.2

def k0_off11 (i : grid0.Coords) : Fin 1 → Nat :=
  let arg0 : BitVec 32 := BitVec.ofNat 32 (i 0).val
  let c8_i32_63 : BitVec 32 := 8#32
  let v164 : BitVec 32 := Scalar.muli arg0 c8_i32_63
  let c4_i32 : BitVec 32 := 4#32
  let v165 : BitVec 32 := Scalar.addi v164 c4_i32
  let v166 : Index := Scalar.indexCast v165
  ![v166.toNat]
def k0_mult65 (v167 : BitVec 32) : BitVec 32 :=
  let c0_i32_65 : BitVec 32 := 0#32
  let v169 : BitVec 1 := Scalar.cmpi .sgt v167 c0_i32_65
  let v170 : BitVec 32 := Scalar.extui v169
  let c0_i32_66 : BitVec 32 := 0#32
  let v171 : BitVec 1 := Scalar.cmpi .slt v167 c0_i32_66
  let v172 : BitVec 32 := Scalar.extui v171
  let v173 : BitVec 32 := Scalar.subi v170 v172
  let c128_i32_64 : BitVec 32 := 128#32
  let c0_i32_67 : BitVec 32 := 0#32
  let v174 : BitVec 1 := Scalar.cmpi .sgt c128_i32_64 c0_i32_67
  let v175 : BitVec 32 := Scalar.extui v174
  let c0_i32_68 : BitVec 32 := 0#32
  let v176 : BitVec 1 := Scalar.cmpi .slt c128_i32_64 c0_i32_68
  let v177 : BitVec 32 := Scalar.extui v176
  let v178 : BitVec 32 := Scalar.subi v175 v177
  let v179 : BitVec 1 := Scalar.cmpi .ne v173 v178
  let v180 : BitVec 32 := Scalar.remsi v167 c128_i32_64
  let c0_i32_69 : BitVec 32 := 0#32
  let v181 : BitVec 1 := Scalar.cmpi .ne v180 c0_i32_69
  let v182 : BitVec 1 := Scalar.andi v179 v181
  let v168 : BitVec 32 := Scalar.divsi v167 c128_i32_64
  let c1_i32_70 : BitVec 32 := 1#32
  let v183 : BitVec 32 := Scalar.subi v168 c1_i32_70
  let v184 : BitVec 32 := Scalar.select v182 v183 v168
  let c128_i32_71 : BitVec 32 := 128#32
  let v185 : BitVec 32 := Scalar.muli v184 c128_i32_71
  v185

def k0_off12 (v167 : BitVec 32) : Fin 2 → Nat :=
  let c0_73 : Index := 0#32
  let c0_i32_65 : BitVec 32 := 0#32
  let v169 : BitVec 1 := Scalar.cmpi .sgt v167 c0_i32_65
  let v170 : BitVec 32 := Scalar.extui v169
  let c0_i32_66 : BitVec 32 := 0#32
  let v171 : BitVec 1 := Scalar.cmpi .slt v167 c0_i32_66
  let v172 : BitVec 32 := Scalar.extui v171
  let v173 : BitVec 32 := Scalar.subi v170 v172
  let c128_i32_64 : BitVec 32 := 128#32
  let c0_i32_67 : BitVec 32 := 0#32
  let v174 : BitVec 1 := Scalar.cmpi .sgt c128_i32_64 c0_i32_67
  let v175 : BitVec 32 := Scalar.extui v174
  let c0_i32_68 : BitVec 32 := 0#32
  let v176 : BitVec 1 := Scalar.cmpi .slt c128_i32_64 c0_i32_68
  let v177 : BitVec 32 := Scalar.extui v176
  let v178 : BitVec 32 := Scalar.subi v175 v177
  let v179 : BitVec 1 := Scalar.cmpi .ne v173 v178
  let v180 : BitVec 32 := Scalar.remsi v167 c128_i32_64
  let c0_i32_69 : BitVec 32 := 0#32
  let v181 : BitVec 1 := Scalar.cmpi .ne v180 c0_i32_69
  let v182 : BitVec 1 := Scalar.andi v179 v181
  let v168 : BitVec 32 := Scalar.divsi v167 c128_i32_64
  let c1_i32_70 : BitVec 32 := 1#32
  let v183 : BitVec 32 := Scalar.subi v168 c1_i32_70
  let v184 : BitVec 32 := Scalar.select v182 v183 v168
  let c128_i32_71 : BitVec 32 := 128#32
  let v185 : BitVec 32 := Scalar.muli v184 c128_i32_71
  let v186 : BitVec 32 := v185
  let v193 : Index := Scalar.indexCast v186
  ![0, v193.toNat]

def k0_chk5 (v167 : BitVec 32) : Prop :=
  (128 ∣ (k0_mult65 v167).toNat) ∧
  (∀ a, (k0_off12 v167) a + S8x128.size a ≤ S8x32000.size a)
theorem k0_mult65_dvd : ∀ (v167 : BitVec 32) (k0_hw5 : k0_chk5 v167), 128 ∣ (k0_mult65 v167).toNat := fun v167 k0_hw5 => k0_hw5.1
theorem k0_off12_inb : ∀ (v167 : BitVec 32) (k0_hw5 : k0_chk5 v167), ∀ a, (k0_off12 v167) a + S8x128.size a ≤ S8x32000.size a := fun v167 k0_hw5 => k0_hw5.2

def k0_off13 (i : grid0.Coords) : Fin 1 → Nat :=
  let arg0 : BitVec 32 := BitVec.ofNat 32 (i 0).val
  let c8_i32_75 : BitVec 32 := 8#32
  let v199 : BitVec 32 := Scalar.muli arg0 c8_i32_75
  let c5_i32 : BitVec 32 := 5#32
  let v200 : BitVec 32 := Scalar.addi v199 c5_i32
  let v201 : Index := Scalar.indexCast v200
  ![v201.toNat]
def k0_mult66 (v202 : BitVec 32) : BitVec 32 :=
  let c0_i32_77 : BitVec 32 := 0#32
  let v204 : BitVec 1 := Scalar.cmpi .sgt v202 c0_i32_77
  let v205 : BitVec 32 := Scalar.extui v204
  let c0_i32_78 : BitVec 32 := 0#32
  let v206 : BitVec 1 := Scalar.cmpi .slt v202 c0_i32_78
  let v207 : BitVec 32 := Scalar.extui v206
  let v208 : BitVec 32 := Scalar.subi v205 v207
  let c128_i32_76 : BitVec 32 := 128#32
  let c0_i32_79 : BitVec 32 := 0#32
  let v209 : BitVec 1 := Scalar.cmpi .sgt c128_i32_76 c0_i32_79
  let v210 : BitVec 32 := Scalar.extui v209
  let c0_i32_80 : BitVec 32 := 0#32
  let v211 : BitVec 1 := Scalar.cmpi .slt c128_i32_76 c0_i32_80
  let v212 : BitVec 32 := Scalar.extui v211
  let v213 : BitVec 32 := Scalar.subi v210 v212
  let v214 : BitVec 1 := Scalar.cmpi .ne v208 v213
  let v215 : BitVec 32 := Scalar.remsi v202 c128_i32_76
  let c0_i32_81 : BitVec 32 := 0#32
  let v216 : BitVec 1 := Scalar.cmpi .ne v215 c0_i32_81
  let v217 : BitVec 1 := Scalar.andi v214 v216
  let v203 : BitVec 32 := Scalar.divsi v202 c128_i32_76
  let c1_i32_82 : BitVec 32 := 1#32
  let v218 : BitVec 32 := Scalar.subi v203 c1_i32_82
  let v219 : BitVec 32 := Scalar.select v217 v218 v203
  let c128_i32_83 : BitVec 32 := 128#32
  let v220 : BitVec 32 := Scalar.muli v219 c128_i32_83
  v220

def k0_off14 (v202 : BitVec 32) : Fin 2 → Nat :=
  let c0_85 : Index := 0#32
  let c0_i32_77 : BitVec 32 := 0#32
  let v204 : BitVec 1 := Scalar.cmpi .sgt v202 c0_i32_77
  let v205 : BitVec 32 := Scalar.extui v204
  let c0_i32_78 : BitVec 32 := 0#32
  let v206 : BitVec 1 := Scalar.cmpi .slt v202 c0_i32_78
  let v207 : BitVec 32 := Scalar.extui v206
  let v208 : BitVec 32 := Scalar.subi v205 v207
  let c128_i32_76 : BitVec 32 := 128#32
  let c0_i32_79 : BitVec 32 := 0#32
  let v209 : BitVec 1 := Scalar.cmpi .sgt c128_i32_76 c0_i32_79
  let v210 : BitVec 32 := Scalar.extui v209
  let c0_i32_80 : BitVec 32 := 0#32
  let v211 : BitVec 1 := Scalar.cmpi .slt c128_i32_76 c0_i32_80
  let v212 : BitVec 32 := Scalar.extui v211
  let v213 : BitVec 32 := Scalar.subi v210 v212
  let v214 : BitVec 1 := Scalar.cmpi .ne v208 v213
  let v215 : BitVec 32 := Scalar.remsi v202 c128_i32_76
  let c0_i32_81 : BitVec 32 := 0#32
  let v216 : BitVec 1 := Scalar.cmpi .ne v215 c0_i32_81
  let v217 : BitVec 1 := Scalar.andi v214 v216
  let v203 : BitVec 32 := Scalar.divsi v202 c128_i32_76
  let c1_i32_82 : BitVec 32 := 1#32
  let v218 : BitVec 32 := Scalar.subi v203 c1_i32_82
  let v219 : BitVec 32 := Scalar.select v217 v218 v203
  let c128_i32_83 : BitVec 32 := 128#32
  let v220 : BitVec 32 := Scalar.muli v219 c128_i32_83
  let v221 : BitVec 32 := v220
  let v228 : Index := Scalar.indexCast v221
  ![0, v228.toNat]

def k0_chk6 (v202 : BitVec 32) : Prop :=
  (128 ∣ (k0_mult66 v202).toNat) ∧
  (∀ a, (k0_off14 v202) a + S8x128.size a ≤ S8x32000.size a)
theorem k0_mult66_dvd : ∀ (v202 : BitVec 32) (k0_hw6 : k0_chk6 v202), 128 ∣ (k0_mult66 v202).toNat := fun v202 k0_hw6 => k0_hw6.1
theorem k0_off14_inb : ∀ (v202 : BitVec 32) (k0_hw6 : k0_chk6 v202), ∀ a, (k0_off14 v202) a + S8x128.size a ≤ S8x32000.size a := fun v202 k0_hw6 => k0_hw6.2

def k0_off15 (i : grid0.Coords) : Fin 1 → Nat :=
  let arg0 : BitVec 32 := BitVec.ofNat 32 (i 0).val
  let c8_i32_87 : BitVec 32 := 8#32
  let v234 : BitVec 32 := Scalar.muli arg0 c8_i32_87
  let c6_i32 : BitVec 32 := 6#32
  let v235 : BitVec 32 := Scalar.addi v234 c6_i32
  let v236 : Index := Scalar.indexCast v235
  ![v236.toNat]
def k0_mult67 (v237 : BitVec 32) : BitVec 32 :=
  let c0_i32_89 : BitVec 32 := 0#32
  let v239 : BitVec 1 := Scalar.cmpi .sgt v237 c0_i32_89
  let v240 : BitVec 32 := Scalar.extui v239
  let c0_i32_90 : BitVec 32 := 0#32
  let v241 : BitVec 1 := Scalar.cmpi .slt v237 c0_i32_90
  let v242 : BitVec 32 := Scalar.extui v241
  let v243 : BitVec 32 := Scalar.subi v240 v242
  let c128_i32_88 : BitVec 32 := 128#32
  let c0_i32_91 : BitVec 32 := 0#32
  let v244 : BitVec 1 := Scalar.cmpi .sgt c128_i32_88 c0_i32_91
  let v245 : BitVec 32 := Scalar.extui v244
  let c0_i32_92 : BitVec 32 := 0#32
  let v246 : BitVec 1 := Scalar.cmpi .slt c128_i32_88 c0_i32_92
  let v247 : BitVec 32 := Scalar.extui v246
  let v248 : BitVec 32 := Scalar.subi v245 v247
  let v249 : BitVec 1 := Scalar.cmpi .ne v243 v248
  let v250 : BitVec 32 := Scalar.remsi v237 c128_i32_88
  let c0_i32_93 : BitVec 32 := 0#32
  let v251 : BitVec 1 := Scalar.cmpi .ne v250 c0_i32_93
  let v252 : BitVec 1 := Scalar.andi v249 v251
  let v238 : BitVec 32 := Scalar.divsi v237 c128_i32_88
  let c1_i32_94 : BitVec 32 := 1#32
  let v253 : BitVec 32 := Scalar.subi v238 c1_i32_94
  let v254 : BitVec 32 := Scalar.select v252 v253 v238
  let c128_i32_95 : BitVec 32 := 128#32
  let v255 : BitVec 32 := Scalar.muli v254 c128_i32_95
  v255

def k0_off16 (v237 : BitVec 32) : Fin 2 → Nat :=
  let c0_97 : Index := 0#32
  let c0_i32_89 : BitVec 32 := 0#32
  let v239 : BitVec 1 := Scalar.cmpi .sgt v237 c0_i32_89
  let v240 : BitVec 32 := Scalar.extui v239
  let c0_i32_90 : BitVec 32 := 0#32
  let v241 : BitVec 1 := Scalar.cmpi .slt v237 c0_i32_90
  let v242 : BitVec 32 := Scalar.extui v241
  let v243 : BitVec 32 := Scalar.subi v240 v242
  let c128_i32_88 : BitVec 32 := 128#32
  let c0_i32_91 : BitVec 32 := 0#32
  let v244 : BitVec 1 := Scalar.cmpi .sgt c128_i32_88 c0_i32_91
  let v245 : BitVec 32 := Scalar.extui v244
  let c0_i32_92 : BitVec 32 := 0#32
  let v246 : BitVec 1 := Scalar.cmpi .slt c128_i32_88 c0_i32_92
  let v247 : BitVec 32 := Scalar.extui v246
  let v248 : BitVec 32 := Scalar.subi v245 v247
  let v249 : BitVec 1 := Scalar.cmpi .ne v243 v248
  let v250 : BitVec 32 := Scalar.remsi v237 c128_i32_88
  let c0_i32_93 : BitVec 32 := 0#32
  let v251 : BitVec 1 := Scalar.cmpi .ne v250 c0_i32_93
  let v252 : BitVec 1 := Scalar.andi v249 v251
  let v238 : BitVec 32 := Scalar.divsi v237 c128_i32_88
  let c1_i32_94 : BitVec 32 := 1#32
  let v253 : BitVec 32 := Scalar.subi v238 c1_i32_94
  let v254 : BitVec 32 := Scalar.select v252 v253 v238
  let c128_i32_95 : BitVec 32 := 128#32
  let v255 : BitVec 32 := Scalar.muli v254 c128_i32_95
  let v256 : BitVec 32 := v255
  let v263 : Index := Scalar.indexCast v256
  ![0, v263.toNat]

def k0_chk7 (v237 : BitVec 32) : Prop :=
  (128 ∣ (k0_mult67 v237).toNat) ∧
  (∀ a, (k0_off16 v237) a + S8x128.size a ≤ S8x32000.size a)
theorem k0_mult67_dvd : ∀ (v237 : BitVec 32) (k0_hw7 : k0_chk7 v237), 128 ∣ (k0_mult67 v237).toNat := fun v237 k0_hw7 => k0_hw7.1
theorem k0_off16_inb : ∀ (v237 : BitVec 32) (k0_hw7 : k0_chk7 v237), ∀ a, (k0_off16 v237) a + S8x128.size a ≤ S8x32000.size a := fun v237 k0_hw7 => k0_hw7.2

def k0_off17 (i : grid0.Coords) : Fin 1 → Nat :=
  let arg0 : BitVec 32 := BitVec.ofNat 32 (i 0).val
  let c8_i32_99 : BitVec 32 := 8#32
  let v269 : BitVec 32 := Scalar.muli arg0 c8_i32_99
  let c7_i32 : BitVec 32 := 7#32
  let v270 : BitVec 32 := Scalar.addi v269 c7_i32
  let v271 : Index := Scalar.indexCast v270
  ![v271.toNat]
def k0_mult68 (v272 : BitVec 32) : BitVec 32 :=
  let c0_i32_101 : BitVec 32 := 0#32
  let v274 : BitVec 1 := Scalar.cmpi .sgt v272 c0_i32_101
  let v275 : BitVec 32 := Scalar.extui v274
  let c0_i32_102 : BitVec 32 := 0#32
  let v276 : BitVec 1 := Scalar.cmpi .slt v272 c0_i32_102
  let v277 : BitVec 32 := Scalar.extui v276
  let v278 : BitVec 32 := Scalar.subi v275 v277
  let c128_i32_100 : BitVec 32 := 128#32
  let c0_i32_103 : BitVec 32 := 0#32
  let v279 : BitVec 1 := Scalar.cmpi .sgt c128_i32_100 c0_i32_103
  let v280 : BitVec 32 := Scalar.extui v279
  let c0_i32_104 : BitVec 32 := 0#32
  let v281 : BitVec 1 := Scalar.cmpi .slt c128_i32_100 c0_i32_104
  let v282 : BitVec 32 := Scalar.extui v281
  let v283 : BitVec 32 := Scalar.subi v280 v282
  let v284 : BitVec 1 := Scalar.cmpi .ne v278 v283
  let v285 : BitVec 32 := Scalar.remsi v272 c128_i32_100
  let c0_i32_105 : BitVec 32 := 0#32
  let v286 : BitVec 1 := Scalar.cmpi .ne v285 c0_i32_105
  let v287 : BitVec 1 := Scalar.andi v284 v286
  let v273 : BitVec 32 := Scalar.divsi v272 c128_i32_100
  let c1_i32_106 : BitVec 32 := 1#32
  let v288 : BitVec 32 := Scalar.subi v273 c1_i32_106
  let v289 : BitVec 32 := Scalar.select v287 v288 v273
  let c128_i32_107 : BitVec 32 := 128#32
  let v290 : BitVec 32 := Scalar.muli v289 c128_i32_107
  v290

def k0_off18 (v272 : BitVec 32) : Fin 2 → Nat :=
  let c0_109 : Index := 0#32
  let c0_i32_101 : BitVec 32 := 0#32
  let v274 : BitVec 1 := Scalar.cmpi .sgt v272 c0_i32_101
  let v275 : BitVec 32 := Scalar.extui v274
  let c0_i32_102 : BitVec 32 := 0#32
  let v276 : BitVec 1 := Scalar.cmpi .slt v272 c0_i32_102
  let v277 : BitVec 32 := Scalar.extui v276
  let v278 : BitVec 32 := Scalar.subi v275 v277
  let c128_i32_100 : BitVec 32 := 128#32
  let c0_i32_103 : BitVec 32 := 0#32
  let v279 : BitVec 1 := Scalar.cmpi .sgt c128_i32_100 c0_i32_103
  let v280 : BitVec 32 := Scalar.extui v279
  let c0_i32_104 : BitVec 32 := 0#32
  let v281 : BitVec 1 := Scalar.cmpi .slt c128_i32_100 c0_i32_104
  let v282 : BitVec 32 := Scalar.extui v281
  let v283 : BitVec 32 := Scalar.subi v280 v282
  let v284 : BitVec 1 := Scalar.cmpi .ne v278 v283
  let v285 : BitVec 32 := Scalar.remsi v272 c128_i32_100
  let c0_i32_105 : BitVec 32 := 0#32
  let v286 : BitVec 1 := Scalar.cmpi .ne v285 c0_i32_105
  let v287 : BitVec 1 := Scalar.andi v284 v286
  let v273 : BitVec 32 := Scalar.divsi v272 c128_i32_100
  let c1_i32_106 : BitVec 32 := 1#32
  let v288 : BitVec 32 := Scalar.subi v273 c1_i32_106
  let v289 : BitVec 32 := Scalar.select v287 v288 v273
  let c128_i32_107 : BitVec 32 := 128#32
  let v290 : BitVec 32 := Scalar.muli v289 c128_i32_107
  let v291 : BitVec 32 := v290
  let v298 : Index := Scalar.indexCast v291
  ![0, v298.toNat]

def k0_chk8 (v272 : BitVec 32) : Prop :=
  (128 ∣ (k0_mult68 v272).toNat) ∧
  (∀ a, (k0_off18 v272) a + S8x128.size a ≤ S8x32000.size a)
theorem k0_mult68_dvd : ∀ (v272 : BitVec 32) (k0_hw8 : k0_chk8 v272), 128 ∣ (k0_mult68 v272).toNat := fun v272 k0_hw8 => k0_hw8.1
theorem k0_off18_inb : ∀ (v272 : BitVec 32) (k0_hw8 : k0_chk8 v272), ∀ a, (k0_off18 v272) a + S8x128.size a ≤ S8x32000.size a := fun v272 k0_hw8 => k0_hw8.2

@[reducible] def k0_t3_loop : Scf.Loop 32 :=
  let c0_i32_115 : BitVec 32 := 0#32
  let c25_i32_116 : BitVec 32 := 25#32
  let v314 : BitVec 32 := Scalar.addi c0_i32_115 c25_i32_116
  let c1_i32_117 : BitVec 32 := 1#32
  ⟨c0_i32_115, v314, c1_i32_117⟩
def k0_mult69 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32 : BitVec 32 := 1280#32
  let v337 : BitVec 32 := Scalar.muli arg9 c1280_i32
  let c0_i32_131 : BitVec 32 := 0#32
  let v338 : BitVec 32 := Scalar.addi v337 c0_i32_131
  v338
def k0_off19 (k0_t3 : Fin k0_t3_loop.trips) (c0_i32_131 : BitVec 32) : Fin 2 → Nat :=
  let c0_132 : Index := 0#32
  let c0_i32_115 : BitVec 32 := 0#32
  let c1_i32_117 : BitVec 32 := 1#32
  let arg9 : BitVec 32 := Scf.iv c0_i32_115 c1_i32_117 k0_t3
  let c1280_i32 : BitVec 32 := 1280#32
  let v337 : BitVec 32 := Scalar.muli arg9 c1280_i32
  let v338 : BitVec 32 := Scalar.addi v337 c0_i32_131
  let v339 : BitVec 32 := v338
  let v340 : Index := Scalar.indexCast v339
  ![0, v340.toNat]
def k0_mult70 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_133 : BitVec 32 := 1280#32
  let v344 : BitVec 32 := Scalar.muli arg9 c1280_i32_133
  let c0_i32_134 : BitVec 32 := 0#32
  let v345 : BitVec 32 := Scalar.addi v344 c0_i32_134
  v345
def k0_mult71 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_137 : BitVec 32 := 1280#32
  let v354 : BitVec 32 := Scalar.muli arg9 c1280_i32_137
  let c0_i32_138 : BitVec 32 := 0#32
  let v355 : BitVec 32 := Scalar.addi v354 c0_i32_138
  v355
def k0_mult72 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_140 : BitVec 32 := 1280#32
  let v362 : BitVec 32 := Scalar.muli arg9 c1280_i32_140
  let c128_i32_141 : BitVec 32 := 128#32
  let v363 : BitVec 32 := Scalar.addi v362 c128_i32_141
  v363
def k0_mult73 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_143 : BitVec 32 := 1280#32
  let v369 : BitVec 32 := Scalar.muli arg9 c1280_i32_143
  let c128_i32_144 : BitVec 32 := 128#32
  let v370 : BitVec 32 := Scalar.addi v369 c128_i32_144
  v370
def k0_mult74 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_147 : BitVec 32 := 1280#32
  let v379 : BitVec 32 := Scalar.muli arg9 c1280_i32_147
  let c128_i32_148 : BitVec 32 := 128#32
  let v380 : BitVec 32 := Scalar.addi v379 c128_i32_148
  v380
def k0_mult75 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_150 : BitVec 32 := 1280#32
  let v387 : BitVec 32 := Scalar.muli arg9 c1280_i32_150
  let c256_i32 : BitVec 32 := 256#32
  let v388 : BitVec 32 := Scalar.addi v387 c256_i32
  v388
def k0_mult76 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_152 : BitVec 32 := 1280#32
  let v394 : BitVec 32 := Scalar.muli arg9 c1280_i32_152
  let c256_i32_153 : BitVec 32 := 256#32
  let v395 : BitVec 32 := Scalar.addi v394 c256_i32_153
  v395
def k0_mult77 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_156 : BitVec 32 := 1280#32
  let v404 : BitVec 32 := Scalar.muli arg9 c1280_i32_156
  let c256_i32_157 : BitVec 32 := 256#32
  let v405 : BitVec 32 := Scalar.addi v404 c256_i32_157
  v405
def k0_mult78 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_159 : BitVec 32 := 1280#32
  let v412 : BitVec 32 := Scalar.muli arg9 c1280_i32_159
  let c384_i32 : BitVec 32 := 384#32
  let v413 : BitVec 32 := Scalar.addi v412 c384_i32
  v413
def k0_mult79 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_161 : BitVec 32 := 1280#32
  let v419 : BitVec 32 := Scalar.muli arg9 c1280_i32_161
  let c384_i32_162 : BitVec 32 := 384#32
  let v420 : BitVec 32 := Scalar.addi v419 c384_i32_162
  v420
def k0_mult80 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_165 : BitVec 32 := 1280#32
  let v429 : BitVec 32 := Scalar.muli arg9 c1280_i32_165
  let c384_i32_166 : BitVec 32 := 384#32
  let v430 : BitVec 32 := Scalar.addi v429 c384_i32_166
  v430
def k0_mult81 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_168 : BitVec 32 := 1280#32
  let v437 : BitVec 32 := Scalar.muli arg9 c1280_i32_168
  let c512_i32 : BitVec 32 := 512#32
  let v438 : BitVec 32 := Scalar.addi v437 c512_i32
  v438
def k0_mult82 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_170 : BitVec 32 := 1280#32
  let v444 : BitVec 32 := Scalar.muli arg9 c1280_i32_170
  let c512_i32_171 : BitVec 32 := 512#32
  let v445 : BitVec 32 := Scalar.addi v444 c512_i32_171
  v445
def k0_mult83 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_174 : BitVec 32 := 1280#32
  let v454 : BitVec 32 := Scalar.muli arg9 c1280_i32_174
  let c512_i32_175 : BitVec 32 := 512#32
  let v455 : BitVec 32 := Scalar.addi v454 c512_i32_175
  v455
def k0_mult84 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_177 : BitVec 32 := 1280#32
  let v462 : BitVec 32 := Scalar.muli arg9 c1280_i32_177
  let c640_i32 : BitVec 32 := 640#32
  let v463 : BitVec 32 := Scalar.addi v462 c640_i32
  v463
def k0_mult85 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_179 : BitVec 32 := 1280#32
  let v469 : BitVec 32 := Scalar.muli arg9 c1280_i32_179
  let c640_i32_180 : BitVec 32 := 640#32
  let v470 : BitVec 32 := Scalar.addi v469 c640_i32_180
  v470
def k0_mult86 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_183 : BitVec 32 := 1280#32
  let v479 : BitVec 32 := Scalar.muli arg9 c1280_i32_183
  let c640_i32_184 : BitVec 32 := 640#32
  let v480 : BitVec 32 := Scalar.addi v479 c640_i32_184
  v480
def k0_mult87 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_186 : BitVec 32 := 1280#32
  let v487 : BitVec 32 := Scalar.muli arg9 c1280_i32_186
  let c768_i32 : BitVec 32 := 768#32
  let v488 : BitVec 32 := Scalar.addi v487 c768_i32
  v488
def k0_mult88 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_188 : BitVec 32 := 1280#32
  let v494 : BitVec 32 := Scalar.muli arg9 c1280_i32_188
  let c768_i32_189 : BitVec 32 := 768#32
  let v495 : BitVec 32 := Scalar.addi v494 c768_i32_189
  v495
def k0_mult89 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_192 : BitVec 32 := 1280#32
  let v504 : BitVec 32 := Scalar.muli arg9 c1280_i32_192
  let c768_i32_193 : BitVec 32 := 768#32
  let v505 : BitVec 32 := Scalar.addi v504 c768_i32_193
  v505
def k0_mult90 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_195 : BitVec 32 := 1280#32
  let v512 : BitVec 32 := Scalar.muli arg9 c1280_i32_195
  let c896_i32 : BitVec 32 := 896#32
  let v513 : BitVec 32 := Scalar.addi v512 c896_i32
  v513
def k0_mult91 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_197 : BitVec 32 := 1280#32
  let v519 : BitVec 32 := Scalar.muli arg9 c1280_i32_197
  let c896_i32_198 : BitVec 32 := 896#32
  let v520 : BitVec 32 := Scalar.addi v519 c896_i32_198
  v520
def k0_mult92 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_201 : BitVec 32 := 1280#32
  let v529 : BitVec 32 := Scalar.muli arg9 c1280_i32_201
  let c896_i32_202 : BitVec 32 := 896#32
  let v530 : BitVec 32 := Scalar.addi v529 c896_i32_202
  v530
def k0_mult93 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_204 : BitVec 32 := 1280#32
  let v537 : BitVec 32 := Scalar.muli arg9 c1280_i32_204
  let c1024_i32 : BitVec 32 := 1024#32
  let v538 : BitVec 32 := Scalar.addi v537 c1024_i32
  v538
def k0_mult94 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_206 : BitVec 32 := 1280#32
  let v544 : BitVec 32 := Scalar.muli arg9 c1280_i32_206
  let c1024_i32_207 : BitVec 32 := 1024#32
  let v545 : BitVec 32 := Scalar.addi v544 c1024_i32_207
  v545
def k0_mult95 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_210 : BitVec 32 := 1280#32
  let v554 : BitVec 32 := Scalar.muli arg9 c1280_i32_210
  let c1024_i32_211 : BitVec 32 := 1024#32
  let v555 : BitVec 32 := Scalar.addi v554 c1024_i32_211
  v555
def k0_mult96 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_213 : BitVec 32 := 1280#32
  let v562 : BitVec 32 := Scalar.muli arg9 c1280_i32_213
  let c1152_i32 : BitVec 32 := 1152#32
  let v563 : BitVec 32 := Scalar.addi v562 c1152_i32
  v563
def k0_mult97 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_215 : BitVec 32 := 1280#32
  let v569 : BitVec 32 := Scalar.muli arg9 c1280_i32_215
  let c1152_i32_216 : BitVec 32 := 1152#32
  let v570 : BitVec 32 := Scalar.addi v569 c1152_i32_216
  v570
def k0_mult98 (k0_t3 : Fin k0_t3_loop.trips) : BitVec 32 :=
  let c0_i32_115 : BitVec 32 := 0#32
  let c1_i32_117 : BitVec 32 := 1#32
  let arg9 : BitVec 32 := Scf.iv c0_i32_115 c1_i32_117 k0_t3
  let c1280_i32_219 : BitVec 32 := 1280#32
  let v579 : BitVec 32 := Scalar.muli arg9 c1280_i32_219
  let c1152_i32_220 : BitVec 32 := 1152#32
  let v580 : BitVec 32 := Scalar.addi v579 c1152_i32_220
  v580
@[reducible] def k0_t4_loop : Scf.Loop 32 :=
  let c0_i32_121 : BitVec 32 := 0#32
  let c25_i32_122 : BitVec 32 := 25#32
  let v320 : BitVec 32 := Scalar.addi c0_i32_121 c25_i32_122
  let c1_i32_123 : BitVec 32 := 1#32
  ⟨c0_i32_121, v320, c1_i32_123⟩
def k0_mult99 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32 : BitVec 32 := 1280#32
  let v337 : BitVec 32 := Scalar.muli arg9 c1280_i32
  let c0_i32_131 : BitVec 32 := 0#32
  let v338 : BitVec 32 := Scalar.addi v337 c0_i32_131
  v338
def k0_off20 (k0_t4 : Fin k0_t4_loop.trips) (c0_i32_131 : BitVec 32) : Fin 2 → Nat :=
  let c0_132 : Index := 0#32
  let c0_i32_121 : BitVec 32 := 0#32
  let c1_i32_123 : BitVec 32 := 1#32
  let arg9 : BitVec 32 := Scf.iv c0_i32_121 c1_i32_123 k0_t4
  let c1280_i32 : BitVec 32 := 1280#32
  let v337 : BitVec 32 := Scalar.muli arg9 c1280_i32
  let v338 : BitVec 32 := Scalar.addi v337 c0_i32_131
  let v339 : BitVec 32 := v338
  let v340 : Index := Scalar.indexCast v339
  ![0, v340.toNat]
def k0_mult100 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_133 : BitVec 32 := 1280#32
  let v345 : BitVec 32 := Scalar.muli arg9 c1280_i32_133
  let c0_i32_134 : BitVec 32 := 0#32
  let v346 : BitVec 32 := Scalar.addi v345 c0_i32_134
  v346
def k0_mult101 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_136 : BitVec 32 := 1280#32
  let v350 : BitVec 32 := Scalar.muli arg9 c1280_i32_136
  let c128_i32_137 : BitVec 32 := 128#32
  let v351 : BitVec 32 := Scalar.addi v350 c128_i32_137
  v351
def k0_mult102 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_139 : BitVec 32 := 1280#32
  let v358 : BitVec 32 := Scalar.muli arg9 c1280_i32_139
  let c128_i32_140 : BitVec 32 := 128#32
  let v359 : BitVec 32 := Scalar.addi v358 c128_i32_140
  v359
def k0_mult103 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_142 : BitVec 32 := 1280#32
  let v363 : BitVec 32 := Scalar.muli arg9 c1280_i32_142
  let c256_i32 : BitVec 32 := 256#32
  let v364 : BitVec 32 := Scalar.addi v363 c256_i32
  v364
def k0_mult104 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_144 : BitVec 32 := 1280#32
  let v371 : BitVec 32 := Scalar.muli arg9 c1280_i32_144
  let c256_i32_145 : BitVec 32 := 256#32
  let v372 : BitVec 32 := Scalar.addi v371 c256_i32_145
  v372
def k0_mult105 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_147 : BitVec 32 := 1280#32
  let v376 : BitVec 32 := Scalar.muli arg9 c1280_i32_147
  let c384_i32 : BitVec 32 := 384#32
  let v377 : BitVec 32 := Scalar.addi v376 c384_i32
  v377
def k0_mult106 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_149 : BitVec 32 := 1280#32
  let v384 : BitVec 32 := Scalar.muli arg9 c1280_i32_149
  let c384_i32_150 : BitVec 32 := 384#32
  let v385 : BitVec 32 := Scalar.addi v384 c384_i32_150
  v385
def k0_mult107 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_152 : BitVec 32 := 1280#32
  let v389 : BitVec 32 := Scalar.muli arg9 c1280_i32_152
  let c512_i32 : BitVec 32 := 512#32
  let v390 : BitVec 32 := Scalar.addi v389 c512_i32
  v390
def k0_mult108 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_154 : BitVec 32 := 1280#32
  let v397 : BitVec 32 := Scalar.muli arg9 c1280_i32_154
  let c512_i32_155 : BitVec 32 := 512#32
  let v398 : BitVec 32 := Scalar.addi v397 c512_i32_155
  v398
def k0_mult109 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_157 : BitVec 32 := 1280#32
  let v402 : BitVec 32 := Scalar.muli arg9 c1280_i32_157
  let c640_i32 : BitVec 32 := 640#32
  let v403 : BitVec 32 := Scalar.addi v402 c640_i32
  v403
def k0_mult110 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_159 : BitVec 32 := 1280#32
  let v410 : BitVec 32 := Scalar.muli arg9 c1280_i32_159
  let c640_i32_160 : BitVec 32 := 640#32
  let v411 : BitVec 32 := Scalar.addi v410 c640_i32_160
  v411
def k0_mult111 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_162 : BitVec 32 := 1280#32
  let v415 : BitVec 32 := Scalar.muli arg9 c1280_i32_162
  let c768_i32 : BitVec 32 := 768#32
  let v416 : BitVec 32 := Scalar.addi v415 c768_i32
  v416
def k0_mult112 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_164 : BitVec 32 := 1280#32
  let v423 : BitVec 32 := Scalar.muli arg9 c1280_i32_164
  let c768_i32_165 : BitVec 32 := 768#32
  let v424 : BitVec 32 := Scalar.addi v423 c768_i32_165
  v424
def k0_mult113 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_167 : BitVec 32 := 1280#32
  let v428 : BitVec 32 := Scalar.muli arg9 c1280_i32_167
  let c896_i32 : BitVec 32 := 896#32
  let v429 : BitVec 32 := Scalar.addi v428 c896_i32
  v429
def k0_mult114 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_169 : BitVec 32 := 1280#32
  let v436 : BitVec 32 := Scalar.muli arg9 c1280_i32_169
  let c896_i32_170 : BitVec 32 := 896#32
  let v437 : BitVec 32 := Scalar.addi v436 c896_i32_170
  v437
def k0_mult115 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_172 : BitVec 32 := 1280#32
  let v441 : BitVec 32 := Scalar.muli arg9 c1280_i32_172
  let c1024_i32 : BitVec 32 := 1024#32
  let v442 : BitVec 32 := Scalar.addi v441 c1024_i32
  v442
def k0_mult116 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_174 : BitVec 32 := 1280#32
  let v449 : BitVec 32 := Scalar.muli arg9 c1280_i32_174
  let c1024_i32_175 : BitVec 32 := 1024#32
  let v450 : BitVec 32 := Scalar.addi v449 c1024_i32_175
  v450
def k0_mult117 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_177 : BitVec 32 := 1280#32
  let v454 : BitVec 32 := Scalar.muli arg9 c1280_i32_177
  let c1152_i32 : BitVec 32 := 1152#32
  let v455 : BitVec 32 := Scalar.addi v454 c1152_i32
  v455
def k0_mult118 (k0_t4 : Fin k0_t4_loop.trips) : BitVec 32 :=
  let c0_i32_121 : BitVec 32 := 0#32
  let c1_i32_123 : BitVec 32 := 1#32
  let arg9 : BitVec 32 := Scf.iv c0_i32_121 c1_i32_123 k0_t4
  let c1280_i32_179 : BitVec 32 := 1280#32
  let v462 : BitVec 32 := Scalar.muli arg9 c1280_i32_179
  let c1152_i32_180 : BitVec 32 := 1152#32
  let v463 : BitVec 32 := Scalar.addi v462 c1152_i32_180
  v463
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32000 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Bonus.lean ====
abbrev S272x32000 : Shape := ⟨2, ![272, 32000]⟩
abbrev S16x32000 : Shape := ⟨2, ![16, 32000]⟩
abbrev S16 : Shape := ⟨1, ![16]⟩
abbrev S16x1 : Shape := ⟨2, ![16, 1]⟩

abbrev nBuf : Space → Nat
  | .hbm => 2
  | .vmem => 4
  | .smem => 0
  | _ => 0

abbrev bufTy : (tb : Table) → Fin (tcTables nBuf tb) → BufTy
  | .hbm, ⟨0, _⟩ => ⟨S272x32000, .f32⟩
  | .hbm, ⟨1, _⟩ => ⟨S272x32000, .bf16⟩
  | .local _ .vmem, ⟨0, _⟩ => ⟨S16x32000, .f32⟩
  | .local _ .vmem, ⟨1, _⟩ => ⟨S16x32000, .f32⟩
  | .local _ .vmem, ⟨2, _⟩ => ⟨S16x32000, .bf16⟩
  | .local _ .vmem, ⟨3, _⟩ => ⟨S16x32000, .bf16⟩
  | _, _ => ⟨S272x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BonusRefIdeal.lean ====
abbrev S272x32000 : Shape := ⟨2, ![272, 32000]⟩
abbrev S_ : Shape := ⟨0, ![]⟩
abbrev S272 : Shape := ⟨1, ![272]⟩
abbrev S272x1 : Shape := ⟨2, ![272, 1]⟩

abbrev nBuf : Space → Nat
  | .hbm => 16
  | .vmem => 0
  | .smem => 0
  | _ => 0

abbrev bufTy : (tb : Table) → Fin (tcTables nBuf tb) → BufTy
  | .hbm, ⟨0, _⟩ => ⟨S272x32000, .f32⟩
  | .hbm, ⟨1, _⟩ => ⟨S_, .f32⟩
  | .hbm, ⟨2, _⟩ => ⟨S272, .f32⟩
  | .hbm, ⟨3, _⟩ => ⟨S_, .f32⟩
  | .hbm, ⟨4, _⟩ => ⟨S272, .f32⟩
  | .hbm, ⟨5, _⟩ => ⟨S272, .f32⟩
  | .hbm, ⟨6, _⟩ => ⟨S272x1, .f32⟩
  | .hbm, ⟨7, _⟩ => ⟨S272x32000, .f32⟩
  | .hbm, ⟨8, _⟩ => ⟨S272x32000, .f32⟩
  | .hbm, ⟨9, _⟩ => ⟨S272x32000, .f32⟩
  | .hbm, ⟨10, _⟩ => ⟨S_, .f32⟩
  | .hbm, ⟨11, _⟩ => ⟨S272, .f32⟩
  | .hbm, ⟨12, _⟩ => ⟨S272x1, .f32⟩
  | .hbm, ⟨13, _⟩ => ⟨S272x32000, .f32⟩
  | .hbm, ⟨14, _⟩ => ⟨S272x32000, .f32⟩
  | .hbm, ⟨15, _⟩ => ⟨S272x32000, .bf16⟩
  | _, _ => ⟨S272x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.HeadsSpec.lean ====
/-
  The three products the claim about `heads` is stated with: the target model's logits from the int4 weight, at the
  positions drafted and at the position after them, and the draft model's logits from the fp8 codes.
-/
module

public import Idealize.ShloMosaic.Lib.Pointwise
public import Idealize.ShloMosaic.Lib.IdealHost

@[expose] public section

noncomputable section

namespace Cert.HeadsSpec

open Idealize.ShloMosaic

/-- The word of a byte's low nibble, sign extended: the nibble shifted to the top and back. -/
def lo (b : BitVec 8) : BitVec 32 :=
  IntOp.shrsi ArithUnit.vector (IntOp.shli ArithUnit.vector (BitVec.setWidth 32 b) 28#32) 28#32

/-- The word of a byte's high nibble, sign extended. -/
def hi (b : BitVec 8) : BitVec 32 :=
  IntOp.shrsi ArithUnit.vector (IntOp.shli ArithUnit.vector (BitVec.setWidth 32 b) 24#32) 28#32

/-- Row `k` of the weight is a nibble of the packed row `k / 2`: the low one where `k` is even, the high one where it is odd. -/
def code (b : BitVec 8) (k : Nat) : EReal := FloatOps.sitofp (F := Ideal) .bf16 (if k % 2 < 1 then lo b else hi b)

/-- Element `(k, v)` of the dequantised weight: the code times its group's scale, 128 rows to a group. -/
def weight {n : Nat} (q : (⟨2, ![2048, n]⟩ : Shape).Idx → BitVec 8) (w : (⟨2, ![32, n]⟩ : Shape).Idx → EReal) (k : Fin 4096)
    (v : Fin n) : EReal :=
  code (q (ix2 ⟨k.val / 2, by omega⟩ v)) k.val * w (ix2 ⟨k.val / 128, by omega⟩ v)

/-- The target model's logits: an activation row against a weight column. -/
def target {n b : Nat} (x : (⟨2, ![b, 4096]⟩ : Shape).Idx → EReal) (q : (⟨2, ![2048, n]⟩ : Shape).Idx → BitVec 8)
    (w : (⟨2, ![32, n]⟩ : Shape).Idx → EReal) (r : Fin b) (v : Fin n) : EReal :=
  ∑ k : Fin 4096, x (ix2 r k) * weight q w k v

/-- The draft model's logits: a row of codes against a column of codes, times the row's scale, times the column's. -/
def draft {n b : Nat} (hc : (⟨2, ![b, 1536]⟩ : Shape).Idx → EReal) (hs : (⟨1, ![b]⟩ : Shape).Idx → EReal)
    (wd : (⟨2, ![1536, n]⟩ : Shape).Idx → EReal) (ws : (⟨1, ![n]⟩ : Shape).Idx → EReal) (r : Fin b) (v : Fin n) : EReal :=
  (∑ k : Fin 1536, hc (ix2 r k) * wd (ix2 k v)) * hs (ix1 r) * ws (ix1 v)

/-- A sum over `2 n` rows is the sum over the even ones and the sum over the odd ones. -/
theorem sum_even_odd {n : Nat} (f : Fin (n * 2) → EReal) :
    ∑ k, f k = (∑ i : Fin n, f ⟨2 * i.val, by omega⟩) + ∑ i : Fin n, f ⟨2 * i.val + 1, by omega⟩ := by
  rw [← finProdFinEquiv.sum_comp, Fintype.sum_prod_type, ← Finset.sum_add_distrib]
  refine Finset.sum_congr rfl fun i _ => ?_
  rw [Fin.sum_univ_two]
  congr 2 <;> (apply Fin.ext; simp [finProdFinEquiv]; try omega)

/-- The draft model's logits from arrays that hold the same rows and columns. -/
theorem draft_of {n b n' b' : Nat} (HC : (⟨2, ![b, 1536]⟩ : Shape).Idx → EReal) (WD : (⟨2, ![1536, n]⟩ : Shape).Idx → EReal)
    (WS : (⟨2, ![1, n]⟩ : Shape).Idx → EReal) (hc : (⟨2, ![b', 1536]⟩ : Shape).Idx → EReal) (hs : (⟨1, ![b']⟩ : Shape).Idx → EReal)
    (wd : (⟨2, ![1536, n']⟩ : Shape).Idx → EReal) (ws : (⟨1, ![n']⟩ : Shape).Idx → EReal) (r : Fin b) (v : Fin n) (r' : Fin b') (v' : Fin n')
    (hC : ∀ k, HC (ix2 r k) = hc (ix2 r' k)) (hD : ∀ k, WD (ix2 k v) = wd (ix2 k v')) (hS : WS (ix2 0 v) = ws (ix1 v')) :
    (∑ k : Fin 1536, HC (ix2 r k) * WD (ix2 k v)) * hs (ix1 r') * WS (ix2 0 v) = draft hc hs wd ws r' v' := by
  unfold draft
  rw [hS]
  congr 2
  exact Finset.sum_congr rfl fun k _ => by rw [hC, hD]

end Cert.HeadsSpec

end
-- ==== Proof.HeadsPay.lean ====
module

public import proofs.«01_k».proof.Proof.Gen.HeadsIdeal.Value
public import proofs.«01_k».proof.Proof.HeadsSpec
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.HeadsIdeal.RefValue

open Cert.HeadsIdeal Cert.HeadsIdeal.Gen

/-- One group of the weight: 128 rows of codes times the group's row of scales. -/
theorem group_apply (C : FVec Ideal S4096x256 .bf16) (w : Vec Ideal S32x256 .f32) (o g : Nat)
    (hs : S4096x256.Slices ![o, 0] S128x256) (inb : ∀ a, (![g, 0] : Fin 2 → Nat) a + (![1, 256] : Fin 2 → Nat) a ≤ S32x256.size a)
    (x : S128x256.Idx) (j : S4096x256.Idx) (i : S32x256.Idx) (h0 : (j 0).val = o + (x 0).val) (h1 : (j 1).val = (x 1).val)
    (hi0 : (i 0).val = g) (hi1 : (i 1).val = (x 1).val) :
    shapeCast S128x256 (mulf (extractStridedSlice S128x256 ![o, 0] C hs)
      (broadcastTo S128x256 (truncf .bf16 (View.ld w (Rect.unit ![g, 0] ![1, 256] inb) : FVec Ideal S1x256 .f32) bitsLt_bf16_f32) broadcasts_S1x256_S128x256))
      shapeCasts_S128x256_S128x256 x = C j * w i := by
  pointwise
  congr 2 <;> (funext a; apply Fin.ext; match a with
    | ⟨0, _⟩ => simp [*]
    | ⟨1, _⟩ => simp [*])

/-- A decoded code, read at an index. -/
theorem pay2_apply (q : Vec Ideal S2048x256 .i8) (r : Fin 4096) (l : Fin 256) :
    k0_pay2 (F := Ideal) q (ix2 r l) = HeadsSpec.code (q (ix2 ⟨r.val / 2, by omega⟩ l)) r.val := by
  unfold_payloads
  pointwise
  unfold HeadsSpec.code HeadsSpec.lo HeadsSpec.hi
  split_ifs <;> rfl

theorem pay40_apply (wt : FVec Ideal S4096x256 .bf16) (x : FVec Ideal S2176x4096 .bf16) (r : Fin 2176) (l : Fin 256) :
    k0_pay40 (F := Ideal) wt x (ix2 r l) = ∑ k : Fin 4096, x (ix2 r k) * wt (ix2 k l) := by
  unfold k0_pay40
  pointwise

theorem pay41_apply (wt : FVec Ideal S4096x256 .bf16) (x : FVec Ideal S272x4096 .bf16) (r : Fin 272) (l : Fin 256) :
    k0_pay41 (F := Ideal) wt x (ix2 r l) = ∑ k : Fin 4096, x (ix2 r k) * wt (ix2 k l) := by
  unfold k0_pay41
  pointwise

theorem pay43_apply (hc : FVec Ideal S2176x1536 .fp8e4m3) (wd : FVec Ideal S1536x256 .fp8e4m3) (hs : FVec Ideal S2176x128 .f32) (h : Fin 2176 → EReal)
    (hh : ∀ r l, hs (ix2 r l) = h r) (ws : Vec Ideal S1x256 .f32) (inb : ∀ a, (![0, 0] : Fin 2 → Nat) a + (![1, 128] : Fin 2 → Nat) a ≤ S1x256.size a)
    (x : S2176x128.Idx) (j : S2176x256.Idx) (h0 : (j 0).val = (x 0).val) (h1 : (j 1).val = 0 + (x 1).val) :
    k0_pay43 (F := Ideal) hc wd hs (View.ld ws (Rect.unit ![0, 0] ![1, 128] inb)) x
      = (∑ k : Fin 1536, hc (ix2 (j 0) k) * wd (ix2 k (j 1))) * h (j 0) * ws (ix2 0 (j 1)) := by
  unfold_payloads
  have e0 : x 0 = j 0 := Fin.ext h0.symm
  have hx : hs x = h (j 0) := by
    rw [← e0, ← hh (x 0) (x 1)]
    exact congrArg hs (eq_ix2 x)
  pointwise [hx, e0]
  have e1 : (⟨(x 1).val, by have h : (j 1).val < 256 := (j 1).isLt; omega⟩ : Fin 256) = j 1 := Fin.ext (by simp only [h1]; try omega)
  rw [e1]

theorem pay1_apply (hc : FVec Ideal S2176x1536 .fp8e4m3) (wd : FVec Ideal S1536x256 .fp8e4m3) (hs : FVec Ideal S2176x128 .f32) (h : Fin 2176 → EReal)
    (hh : ∀ r l, hs (ix2 r l) = h r) (ws : Vec Ideal S1x256 .f32) (inb : ∀ a, (![0, 128] : Fin 2 → Nat) a + (![1, 128] : Fin 2 → Nat) a ≤ S1x256.size a)
    (x : S2176x128.Idx) (j : S2176x256.Idx) (h0 : (j 0).val = (x 0).val) (h1 : (j 1).val = 128 + (x 1).val) :
    k0_pay1 (F := Ideal) (k0_pay42 hc wd) hs (View.ld ws (Rect.unit ![0, 128] ![1, 128] inb)) x
      = (∑ k : Fin 1536, hc (ix2 (j 0) k) * wd (ix2 k (j 1))) * h (j 0) * ws (ix2 0 (j 1)) := by
  unfold_payloads
  have e0 : x 0 = j 0 := Fin.ext h0.symm
  have hx : hs x = h (j 0) := by
    rw [← e0, ← hh (x 0) (x 1)]
    exact congrArg hs (eq_ix2 x)
  pointwise [hx, e0]
  have e1 : (⟨128 + (x 1).val, by have h : (j 1).val < 256 := (j 1).isLt; omega⟩ : Fin 256) = j 1 := Fin.ext (by simp only [h1]; try omega)
  rw [e1]

variable (m : (ℓ : Loc nD τ sig) → Buf (Elt Ideal) ℓ)

theorem idx0 : ∀ t : Fin cfg0.N, win0_0.index t = ![0, 0] := (by decide +kernel : ∀ t : Fin grid0.N, _)

theorem idx1 : ∀ t : Fin cfg0.N, win0_1.index t = ![0, 0] := (by decide +kernel : ∀ t : Fin grid0.N, _)

theorem idx2 : ∀ t : Fin cfg0.N, win0_2.index t = ![0, 0] := (by decide +kernel : ∀ t : Fin grid0.N, _)

theorem idx3 : ∀ t : Fin cfg0.N, win0_3.index t = ![0, 0] := (by decide +kernel : ∀ t : Fin grid0.N, _)

theorem idx4 : ∀ t : Fin cfg0.N, win0_4.index t = ![0, t.val] := (by decide +kernel : ∀ t : Fin grid0.N, _)

theorem idx5 : ∀ t : Fin cfg0.N, win0_5.index t = ![0, t.val] := (by decide +kernel : ∀ t : Fin grid0.N, _)

theorem idx6 : ∀ t : Fin cfg0.N, win0_6.index t = ![0, t.val] := (by decide +kernel : ∀ t : Fin grid0.N, _)

theorem idx7 : ∀ t : Fin cfg0.N, win0_7.index t = ![0, t.val] := (by decide +kernel : ∀ t : Fin grid0.N, _)

theorem idx8 : ∀ t : Fin cfg0.N, win0_8.index t = ![0, t.val] := (by decide +kernel : ∀ t : Fin grid0.N, _)

theorem idx9 : ∀ t : Fin cfg0.N, win0_9.index t = ![0, t.val] := (by decide +kernel : ∀ t : Fin grid0.N, _)

theorem idx10 : ∀ t : Fin cfg0.N, win0_10.index t = ![0, t.val] := (by decide +kernel : ∀ t : Fin grid0.N, _)

/-- The target model's logits at the drafted positions. -/
def lt (c : Dev nD) : Buf (Elt Ideal) ((c : Thread nD τ).loc main_v3_0) := fun i =>
  HeadsSpec.target (m ((c : Thread nD τ).loc main_arg0)) (m ((c : Thread nD τ).loc main_arg4)) (m ((c : Thread nD τ).loc main_arg5)) (i 0) (i 1)

def lb (c : Dev nD) : Buf (Elt Ideal) ((c : Thread nD τ).loc main_v3_1) := fun i =>
  HeadsSpec.target (m ((c : Thread nD τ).loc main_arg1)) (m ((c : Thread nD τ).loc main_arg4)) (m ((c : Thread nD τ).loc main_arg5)) (i 0) (i 1)

def ld (c : Dev nD) : Buf (Elt Ideal) ((c : Thread nD τ).loc main_v3_2) := fun i =>
  HeadsSpec.draft (m ((c : Thread nD τ).loc main_arg2)) (m ((c : Thread nD τ).loc main_arg3)) (m ((c : Thread nD τ).loc main_arg6)) (m ((c : Thread nD τ).loc main_arg7)) (i 0) (i 1)

theorem target_of {n b n' b' : Nat} (X : (⟨2, ![b, 4096]⟩ : Shape).Idx → EReal) (WT : (⟨2, ![4096, n]⟩ : Shape).Idx → EReal)
    (x : (⟨2, ![b', 4096]⟩ : Shape).Idx → EReal) (q : (⟨2, ![2048, n']⟩ : Shape).Idx → BitVec 8)
    (w : (⟨2, ![32, n']⟩ : Shape).Idx → EReal) (r : Fin b) (v : Fin n) (r' : Fin b') (v' : Fin n')
    (hX : ∀ k, X (ix2 r k) = x (ix2 r' k)) (hW : ∀ k, WT (ix2 k v) = HeadsSpec.weight q w k v') :
    ∑ k : Fin 4096, X (ix2 r k) * WT (ix2 k v) = HeadsSpec.target x q w r' v' :=
  Finset.sum_congr rfl fun k _ => by rw [hX, hW]

end Cert.HeadsIdeal.RefValue

end
-- ==== Proof.HeadsTarget.lean ====
module

public import proofs.«01_k».proof.Proof.Gen.HeadsIdeal.Value
public import proofs.«01_k».proof.Proof.HeadsPay
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.HeadsIdeal.RefValue

open Cert.HeadsIdeal Cert.HeadsIdeal.Gen

variable (m : (ℓ : Loc nD τ sig) → Buf (Elt Ideal) ℓ)

theorem iblk4_apply (c : Dev nD) (t : Fin cfg0.N) (r : Fin 2048) (l : Fin 256) (h : 256 * t.val + l.val < 32000) :
    iblk m c 4 t (ix2 r l) = m ((c : Thread nD τ).loc main_arg4) (ix2 r ⟨256 * t.val + l.val, h⟩) := by
  blk_simp [iblk]
  refine (congrFun (V_main_arg4 m c) _).trans (congrArg _ ?_)
  blk_ext [idx4]

theorem iblk5_apply (c : Dev nD) (t : Fin cfg0.N) (r : Fin 32) (l : Fin 256) (h : 256 * t.val + l.val < 32000) :
    iblk m c 5 t (ix2 r l) = m ((c : Thread nD τ).loc main_arg5) (ix2 r ⟨256 * t.val + l.val, h⟩) := by
  blk_simp [iblk]
  refine (congrFun (V_main_arg5 m c) _).trans (congrArg _ ?_)
  blk_ext [idx5]

/-- A group of the scratch at point `t`, read at row `k` and column `y1`: the weight there. -/
theorem piece_apply (c : Dev nD) (t : Fin cfg0.N) (o g : Nat) (hs : S4096x256.Slices ![o, 0] S128x256)
    (inb : ∀ a, (![g, 0] : Fin 2 → Nat) a + (![1, 256] : Fin 2 → Nat) a ≤ S32x256.size a) (x : S128x256.Idx) (k : Fin 4096)
    (y1 : Fin 256) (h0 : k.val = o + (x 0).val) (h1 : y1.val = (x 1).val) (ho : o = 128 * g) (h : 256 * t.val + y1.val < 32000) :
    shapeCast S128x256 (mulf (extractStridedSlice S128x256 ![o, 0] (k0_pay2 (F := Ideal) (iblk m c 4 t)) hs)
      (broadcastTo S128x256 (truncf .bf16 (View.ld (iblk m c 5 t) (Rect.unit ![g, 0] ![1, 256] inb) : FVec Ideal S1x256 .f32) bitsLt_bf16_f32) broadcasts_S1x256_S128x256))
      shapeCasts_S128x256_S128x256 x
      = HeadsSpec.weight (m ((c : Thread nD τ).loc main_arg4)) (m ((c : Thread nD τ).loc main_arg5)) k ⟨256 * t.val + y1.val, h⟩ := by
  have hx0 : (x 0).val < 128 := (x 0).isLt
  have hk := k.isLt
  refine (group_apply _ _ o g hs inb x (ix2 k y1) (ix2 ⟨k.val / 128, by omega⟩ y1) h0 h1 ?_ h1).trans ?_
  · show k.val / 128 = g
    omega
  · rw [pay2_apply, iblk4_apply m c t _ _ h, iblk5_apply m c t _ _ h]
    rfl

theorem whole0 (k : Fin 4096) (l : Fin 256) (inb : ∀ a, (![0, 0] : Fin 2 → Nat) a + (![4096, 256] : Fin 2 → Nat) a ≤ S4096x256.size a) :
    ((Rect.unit (s := S4096x256) ![0, 0] ![4096, 256] inb).idx (ix2 k l) 0).val = k.val := by
  show 0 + 1 * k.val = _
  omega

theorem whole1 (k : Fin 4096) (l : Fin 256) (inb : ∀ a, (![0, 0] : Fin 2 → Nat) a + (![4096, 256] : Fin 2 → Nat) a ≤ S4096x256.size a) :
    ((Rect.unit (s := S4096x256) ![0, 0] ![4096, 256] inb).idx (ix2 k l) 1).val = l.val := by
  show 0 + 1 * l.val = _
  omega

theorem final8 (c : Dev nD) : (dats m 0 c).arrAt 8 cfg0.N = lt m c := by
  refine (dats m 0 c).arrAt_eq_of_covers 8 _ (by decide +kernel) fun t hf y => ?_
  blk_simp
  rw [after0_8]
  simp only [outsAt0]
  frame_out
  idx_vars y
  have ht : t.val < 125 := t.isLt
  have hi : (win0_8.blk t).view.emb (ix2 y0 y1) = ix2 y0 ⟨256 * t.val + y1.val, by omega⟩ := by blk_ext [idx8]
  refine Eq.trans ?_ (congrArg (lt m c) hi).symm
  refine (pay40_apply _ _ _ _).trans (target_of _ _ (m ((c : Thread nD τ).loc main_arg0)) (m ((c : Thread nD τ).loc main_arg4)) (m ((c : Thread nD τ).loc main_arg5)) _ _ y0 ⟨256 * t.val + y1.val, by omega⟩ (fun k => ?_) fun k => ?_)
  · blk_simp [iblk]
    refine (congrFun (V_main_arg0 m c) _).trans (congrArg _ ?_)
    blk_ext [idx0]
  · rw [View.readCov_eq_canon']
    canon_tiles x h
    all_goals
      rw [whole0] at h0
      rw [whole1] at h1
      refine piece_apply m c t _ _ (by decide) (by decide) x k y1 ?_ ?_ ?_ _
      · omega
      · exact h1
      · rfl

theorem final9 (c : Dev nD) : (dats m 0 c).arrAt 9 cfg0.N = lb m c := by
  refine (dats m 0 c).arrAt_eq_of_covers 9 _ (by decide +kernel) fun t hf y => ?_
  blk_simp
  rw [after0_9]
  simp only [outsAt0]
  frame_out
  idx_vars y
  have ht : t.val < 125 := t.isLt
  have hi : (win0_9.blk t).view.emb (ix2 y0 y1) = ix2 y0 ⟨256 * t.val + y1.val, by omega⟩ := by blk_ext [idx9]
  refine Eq.trans ?_ (congrArg (lb m c) hi).symm
  refine (pay41_apply _ _ _ _).trans (target_of _ _ (m ((c : Thread nD τ).loc main_arg1)) (m ((c : Thread nD τ).loc main_arg4)) (m ((c : Thread nD τ).loc main_arg5)) _ _ y0 ⟨256 * t.val + y1.val, by omega⟩ (fun k => ?_) fun k => ?_)
  · blk_simp [iblk]
    refine (congrFun (V_main_arg1 m c) _).trans (congrArg _ ?_)
    blk_ext [idx1]
  · rw [View.readCov_eq_canon']
    canon_tiles x h
    all_goals
      rw [whole0] at h0
      rw [whole1] at h1
      refine piece_apply m c t _ _ (by decide) (by decide) x k y1 ?_ ?_ ?_ _
      · omega
      · exact h1
      · rfl

end Cert.HeadsIdeal.RefValue

end
-- ==== Proof.HeadsDraft.lean ====
module

public import proofs.«01_k».proof.Proof.Gen.HeadsIdeal.Value
public import proofs.«01_k».proof.Proof.HeadsPay
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.HeadsIdeal.RefValue

open Cert.HeadsIdeal Cert.HeadsIdeal.Gen

variable (m : (ℓ : Loc nD τ sig) → Buf (Elt Ideal) ℓ)

theorem iblk2_apply (c : Dev nD) (t : Fin cfg0.N) (r : Fin 2176) (k : Fin 1536) :
    iblk m c 2 t (ix2 r k) = m ((c : Thread nD τ).loc main_arg2) (ix2 r k) := by
  blk_simp [iblk]
  refine (congrFun (V_main_arg2 m c) _).trans (congrArg _ ?_)
  blk_ext [idx2]

theorem iblk6_apply (c : Dev nD) (t : Fin cfg0.N) (k : Fin 1536) (l : Fin 256) (h : 256 * t.val + l.val < 32000) :
    iblk m c 6 t (ix2 k l) = m ((c : Thread nD τ).loc main_arg6) (ix2 k ⟨256 * t.val + l.val, h⟩) := by
  blk_simp [iblk]
  refine (congrFun (V_main_arg6 m c) _).trans (congrArg _ ?_)
  blk_ext [idx6]

theorem iblk3_apply (c : Dev nD) (t : Fin cfg0.N) (r : Fin 2176) (l : Fin 128) :
    iblk m c 3 t (ix2 r l) = m ((c : Thread nD τ).loc main_arg3) (ix1 r) := by
  blk_simp [iblk]
  have hi : (win0_3.blk t).view.emb (ix2 r l) = ix2 r l := by blk_ext [idx3]
  refine (congrArg (V m c main_v1) hi).trans ?_
  have e : (V m c main_v1 : (⟨S2176x128, .f32⟩ : BufTy).Contents (Elt Ideal))
      = broadcastInDim S2176x128 ![0, 1] bcast_S2176x1_S2176x128_0_1 (broadcastInDim S2176x1 ![0] bcast_S2176_S2176x1_0 (m ((c : Thread nD τ).loc main_arg3))) := by
    unfold V
    after_results
  refine (congrFun e _).trans ?_
  pointwise

theorem iblk7_apply (c : Dev nD) (t : Fin cfg0.N) (l : Fin 256) (h : 256 * t.val + l.val < 32000) :
    iblk m c 7 t (ix2 0 l) = m ((c : Thread nD τ).loc main_arg7) (ix1 ⟨256 * t.val + l.val, h⟩) := by
  blk_simp [iblk]
  have hi : (win0_7.blk t).view.emb (ix2 0 l) = ix2 0 ⟨256 * t.val + l.val, h⟩ := by blk_ext [idx7]
  refine (congrArg (V m c main_v2) hi).trans ?_
  have e : (V m c main_v2 : (⟨S1x32000, .f32⟩ : BufTy).Contents (Elt Ideal))
      = broadcastInDim S1x32000 ![1] bcast_S32000_S1x32000_1 (m ((c : Thread nD τ).loc main_arg7)) := by
    unfold V
    after_results
  refine (congrFun e _).trans ?_
  pointwise

theorem final10 (c : Dev nD) : (dats m 0 c).arrAt 10 cfg0.N = ld m c := by
  refine (dats m 0 c).arrAt_eq_of_covers 10 _ (by decide +kernel) fun t hf y => ?_
  blk_simp
  rw [after0_10]
  simp only [outsAt0]
  frame_out
  idx_vars y
  have ht : t.val < 125 := t.isLt
  have hi : (win0_10.blk t).view.emb (ix2 y0 y1) = ix2 y0 ⟨256 * t.val + y1.val, by omega⟩ := by blk_ext [idx10]
  refine Eq.trans ?_ (congrArg (ld m c) hi).symm
  have hy : 256 * t.val + y1.val < 32000 := by omega
  refine Eq.trans ?_ (HeadsSpec.draft_of (iblk m c 2 t) (iblk m c 6 t) (iblk m c 7 t) (m ((c : Thread nD τ).loc main_arg2)) (m ((c : Thread nD τ).loc main_arg3))
    (m ((c : Thread nD τ).loc main_arg6)) (m ((c : Thread nD τ).loc main_arg7)) y0 y1 y0 ⟨256 * t.val + y1.val, hy⟩
    (iblk2_apply m c t y0) (fun k => iblk6_apply m c t k y1 hy) (iblk7_apply m c t y1 hy))
  canon_tiles x h
  · exact pay1_apply _ _ _ (fun r => m ((c : Thread nD τ).loc main_arg3) (ix1 r)) (iblk3_apply m c t) _ _ x (ix2 y0 y1) h0 h1
  · exact pay43_apply _ _ _ (fun r => m ((c : Thread nD τ).loc main_arg3) (ix1 r)) (iblk3_apply m c t) _ _ x (ix2 y0 y1) h0 (by omega)

end Cert.HeadsIdeal.RefValue

end
-- ==== Proof.HeadsRef.lean ====
/-
  The reference of the head products: the weight's even and odd rows decoded on the host, the target model's logits as
  the sum of the two products, the draft model's by one gridless call. Each read at an index, as `HeadsSpec` states it.
-/
module

public import proofs.«01_k».proof.Proof.Gen.HeadsRefIdeal.Value
public import proofs.«01_k».proof.Proof.HeadsSpec
public import Idealize.ShloMosaic.Lib.Pipeline.ValueKit
public import Idealize.ShloMosaic.Lib.StackMember

@[expose] public section

set_option maxRecDepth 16384

noncomputable section

open Idealize.ShloMosaic Idealize.ShloMosaic.TcCoe Idealize.SL.Sem
open Idealize.ShloMosaic.Pipeline (Dat)

namespace Cert.HeadsRefIdeal.RefValue

open Cert.HeadsRefIdeal Cert.HeadsRefIdeal.Gen

variable (m : (ℓ : Loc nD τ sig) → Buf (Elt Ideal) ℓ)

/-- A nibble read as a signed number: sixteen less where it is eight or more. -/
def decode (n : IVec S2048x32000 32) : FVec Ideal S2048x32000 .bf16 :=
  sitofp .bf16 (subi n (muli (broadcastInDim S2048x32000 ![] bcast_S_S2048x32000 (constantI S_ 32 16#32))
    (extui 32 (cmpi .sge n (broadcastInDim S2048x32000 ![] bcast_S_S2048x32000 (constantI S_ 32 8#32))) natLt_1_32)))

/-- Each group's scale, at every packed row of the group. -/
def scales (w : FVec Ideal S32x32000 .f32) : FVec Ideal S2048x32000 .bf16 :=
  shapeCast S2048x32000 (broadcastInDim S32x64x32000 ![0, 2] bcast_S32x32000_S32x64x32000_0_2 (truncf .bf16 w bitsLt_bf16_f32)) shapeCasts_S32x64x32000_S2048x32000

/-- The weight's even rows. -/
def even (q : IVec S2048x32000 8) (w : FVec Ideal S32x32000 .f32) : FVec Ideal S2048x32000 .bf16 :=
  mulf (decode (andi (extui 32 q natLt_8_32) (broadcastInDim S2048x32000 ![] bcast_S_S2048x32000 (constantI S_ 32 15#32)))) (scales w)

/-- The weight's odd rows. -/
def odd (q : IVec S2048x32000 8) (w : FVec Ideal S32x32000 .f32) : FVec Ideal S2048x32000 .bf16 :=
  mulf (decode (Host.shrsi (extui 32 q natLt_8_32) (broadcastInDim S2048x32000 ![] bcast_S_S2048x32000 (constantI S_ 32 4#32)))) (scales w)

/-- The reference's logits at the drafted positions. -/
def drafted (x : FVec Ideal S2176x4096 .bf16) (q : IVec S2048x32000 8) (w : FVec Ideal S32x32000 .f32) : FVec Ideal S2176x32000 .f32 :=
  addf (Host.dotGeneral dot_S2176x2048_S2048x32000_S2176x32000_1_0_0_1_n_n none
      (Host.slice S2176x2048 ![0, 0] ![1, 2] x slicesBy_S2176x4096_S2176x2048_0s1_0s2) (even q w))
    (Host.dotGeneral dot_S2176x2048_S2048x32000_S2176x32000_1_0_0_1_n_n none
      (Host.slice S2176x2048 ![0, 1] ![1, 2] x slicesBy_S2176x4096_S2176x2048_0s1_1s2) (odd q w))

/-- The reference's logits at the last position. -/
def last (x : FVec Ideal S272x4096 .bf16) (q : IVec S2048x32000 8) (w : FVec Ideal S32x32000 .f32) : FVec Ideal S272x32000 .f32 :=
  addf (Host.dotGeneral dot_S272x2048_S2048x32000_S272x32000_1_0_0_1_n_n none
      (Host.slice S272x2048 ![0, 0] ![1, 2] x slicesBy_S272x4096_S272x2048_0s1_0s2) (even q w))
    (Host.dotGeneral dot_S272x2048_S2048x32000_S272x32000_1_0_0_1_n_n none
      (Host.slice S272x2048 ![0, 1] ![1, 2] x slicesBy_S272x4096_S272x2048_0s1_1s2) (odd q w))

theorem V_main_v28 (c : Dev nD) : V m c main_v28 = drafted (m ((c : Thread nD τ).loc main_arg0)) (m ((c : Thread nD τ).loc main_arg4)) (m ((c : Thread nD τ).loc main_arg5)) := by
  unfold V drafted even odd decode scales
  after_results
  rfl

theorem V_main_v33 (c : Dev nD) : V m c main_v33 = last (m ((c : Thread nD τ).loc main_arg1)) (m ((c : Thread nD τ).loc main_arg4)) (m ((c : Thread nD τ).loc main_arg5)) := by
  unfold V last even odd decode scales
  after_results
  rfl

/-- The reference's reading of a low nibble is the kernel's. -/
theorem lo_eq : ∀ b : BitVec 8, IntOp.subi (IntOp.andi (BitVec.setWidth 32 b) 15#32)
    (IntOp.muli 16#32 (BitVec.setWidth 32 (IntOp.cmpi .sge (IntOp.andi (BitVec.setWidth 32 b) 15#32) 8#32))) = HeadsSpec.lo b := by
  decide +kernel

/-- The reference's reading of a high nibble is the kernel's. -/
theorem hi_eq : ∀ b : BitVec 8, IntOp.subi (IntOp.shrsi ArithUnit.host (BitVec.setWidth 32 b) 4#32)
    (IntOp.muli 16#32 (BitVec.setWidth 32 (IntOp.cmpi .sge (IntOp.shrsi ArithUnit.host (BitVec.setWidth 32 b) 4#32) 8#32))) = HeadsSpec.hi b := by
  decide +kernel

theorem scales_apply (w : FVec Ideal S32x32000 .f32) (k : Fin 2048) (v : Fin 32000) :
    scales w (ix2 k v) = w (ix2 ⟨k.val / 64, by omega⟩ v) := by
  unfold scales
  pointwise

theorem even_apply (q : IVec S2048x32000 8) (w : FVec Ideal S32x32000 .f32) (k : Fin 2048) (v : Fin 32000) :
    even q w (ix2 k v) = HeadsSpec.weight q w ⟨2 * k.val, by omega⟩ v := by
  refine (congrArg₂ (fun a b : EReal => a * b) (congrArg (FloatOps.sitofp (F := Ideal) .bf16) (lo_eq (q (ix2 k v)))) (scales_apply w k v)).trans ?_
  unfold HeadsSpec.weight HeadsSpec.code
  have e0 : (⟨(2 * k.val) / 2, by omega⟩ : Fin 2048) = k := Fin.ext (by simp only; omega)
  have e1 : (⟨(2 * k.val) / 128, by omega⟩ : Fin 32) = ⟨k.val / 64, by omega⟩ := Fin.ext (by simp only; omega)
  rw [e0, e1, if_pos (show (2 * k.val) % 2 < 1 by omega)]

theorem odd_apply (q : IVec S2048x32000 8) (w : FVec Ideal S32x32000 .f32) (k : Fin 2048) (v : Fin 32000) :
    odd q w (ix2 k v) = HeadsSpec.weight q w ⟨2 * k.val + 1, by omega⟩ v := by
  refine (congrArg₂ (fun a b : EReal => a * b) (congrArg (FloatOps.sitofp (F := Ideal) .bf16) (hi_eq (q (ix2 k v)))) (scales_apply w k v)).trans ?_
  unfold HeadsSpec.weight HeadsSpec.code
  have e0 : (⟨(2 * k.val + 1) / 2, by omega⟩ : Fin 2048) = k := Fin.ext (by simp only; omega)
  have e1 : (⟨(2 * k.val + 1) / 128, by omega⟩ : Fin 32) = ⟨k.val / 64, by omega⟩ := Fin.ext (by simp only; omega)
  rw [e0, e1, if_neg (show ¬ (2 * k.val + 1) % 2 < 1 by omega)]

/-- The sum over the even rows and the sum over the odd rows are the sum over all. -/
theorem target_of {b n : Nat} {P Q : EReal} (x : (⟨2, ![b, 4096]⟩ : Shape).Idx → EReal) (q : (⟨2, ![2048, n]⟩ : Shape).Idx → BitVec 8)
    (w : (⟨2, ![32, n]⟩ : Shape).Idx → EReal) (xe xo : (⟨2, ![b, 2048]⟩ : Shape).Idx → EReal) (we wo : (⟨2, ![2048, n]⟩ : Shape).Idx → EReal)
    (r : Fin b) (v : Fin n) (hP : P = ∑ k : Fin 2048, xe (ix2 r k) * we (ix2 k v)) (hQ : Q = ∑ k : Fin 2048, xo (ix2 r k) * wo (ix2 k v))
    (he : ∀ k : Fin 2048, xe (ix2 r k) = x (ix2 r ⟨2 * k.val, by omega⟩)) (ho : ∀ k : Fin 2048, xo (ix2 r k) = x (ix2 r ⟨2 * k.val + 1, by omega⟩))
    (hwe : ∀ k : Fin 2048, we (ix2 k v) = HeadsSpec.weight q w ⟨2 * k.val, by omega⟩ v)
    (hwo : ∀ k : Fin 2048, wo (ix2 k v) = HeadsSpec.weight q w ⟨2 * k.val + 1, by omega⟩ v) :
    P + Q = HeadsSpec.target x q w r v := by
  unfold HeadsSpec.target
  refine Eq.trans ?_ (HeadsSpec.sum_even_odd (n := 2048) fun k => x (ix2 r k) * HeadsSpec.weight q w k v).symm
  rw [hP, hQ]
  exact congrArg₂ (· + ·) (Finset.sum_congr rfl fun k _ => by rw [he, hwe]) (Finset.sum_congr rfl fun k _ => by rw [ho, hwo])

theorem drafted_apply (x : FVec Ideal S2176x4096 .bf16) (q : IVec S2048x32000 8) (w : FVec Ideal S32x32000 .f32) (r : Fin 2176) (v : Fin 32000) :
    drafted x q w (ix2 r v) = HeadsSpec.target x q w r v :=
  target_of x q w _ _ _ _ r v (StackMember.dotGeneral_plain_apply none _ _ r v) (StackMember.dotGeneral_plain_apply none _ _ r v)
    (fun k => by pointwise) (fun k => by pointwise; congr 3; omega) (fun k => even_apply q w k v) fun k => odd_apply q w k v

theorem last_apply (x : FVec Ideal S272x4096 .bf16) (q : IVec S2048x32000 8) (w : FVec Ideal S32x32000 .f32) (r : Fin 272) (v : Fin 32000) :
    last x q w (ix2 r v) = HeadsSpec.target x q w r v :=
  target_of x q w _ _ _ _ r v (StackMember.dotGeneral_plain_apply none _ _ r v) (StackMember.dotGeneral_plain_apply none _ _ r v)
    (fun k => by pointwise) (fun k => by pointwise; congr 3; omega) (fun k => even_apply q w k v) fun k => odd_apply q w k v

/-- The draft model's logits, as the reference's gridless kernel computes them. -/
theorem pay1_apply (hc : Vec Ideal S2176x1536 .fp8e4m3) (wd : Vec Ideal S1536x32000 .fp8e4m3) (hs : Vec Ideal S2176x1 .f32) (ws : Vec Ideal S1x32000 .f32)
    (r : Fin 2176) (v : Fin 32000) :
    k0_pay1 (F := Ideal) hc wd hs ws (ix2 r v) = (∑ k : Fin 1536, hc (ix2 r k) * wd (ix2 k v)) * hs (ix2 r 0) * ws (ix2 0 v) := by
  unfold_payloads
  pointwise

theorem idx0 : ∀ t : Fin cfg0.N, win0_0.index t = ![0, 0] := (by decide +kernel : ∀ t : Fin grid0.N, _)

theorem idx1 : ∀ t : Fin cfg0.N, win0_1.index t = ![0, 0] := (by decide +kernel : ∀ t : Fin grid0.N, _)

theorem idx2 : ∀ t : Fin cfg0.N, win0_2.index t = ![0, 0] := (by decide +kernel : ∀ t : Fin grid0.N, _)

theorem idx3 : ∀ t : Fin cfg0.N, win0_3.index t = ![0, 0] := (by decide +kernel : ∀ t : Fin grid0.N, _)

theorem idx4 : ∀ t : Fin cfg0.N, win0_4.index t = ![0, 0] := (by decide +kernel : ∀ t : Fin grid0.N, _)

/-- The draft model's logits. -/
def ld (c : Dev nD) : Buf (Elt Ideal) ((c : Thread nD τ).loc main_v36) := fun i =>
  HeadsSpec.draft (m ((c : Thread nD τ).loc main_arg2)) (m ((c : Thread nD τ).loc main_arg3)) (m ((c : Thread nD τ).loc main_arg6)) (m ((c : Thread nD τ).loc main_arg7)) (i 0) (i 1)

theorem iblk0_apply (c : Dev nD) (t : Fin cfg0.N) (r : Fin 2176) (k : Fin 1536) :
    iblk m c 0 t (ix2 r k) = m ((c : Thread nD τ).loc main_arg2) (ix2 r k) := by
  blk_simp [iblk]
  refine (congrFun (V_main_arg2 m c) _).trans (congrArg _ ?_)
  blk_ext [idx0]

theorem iblk2_apply (c : Dev nD) (t : Fin cfg0.N) (k : Fin 1536) (v : Fin 32000) :
    iblk m c 2 t (ix2 k v) = m ((c : Thread nD τ).loc main_arg6) (ix2 k v) := by
  blk_simp [iblk]
  refine (congrFun (V_main_arg6 m c) _).trans (congrArg _ ?_)
  blk_ext [idx2]

theorem iblk1_apply (c : Dev nD) (t : Fin cfg0.N) (r : Fin 2176) :
    iblk m c 1 t (ix2 r 0) = m ((c : Thread nD τ).loc main_arg3) (ix1 r) := by
  blk_simp [iblk]
  have hi : (win0_1.blk t).view.emb (ix2 r 0) = ix2 r 0 := by blk_ext [idx1]
  refine (congrArg (V m c main_v34) hi).trans ?_
  have e : (V m c main_v34 : (⟨S2176x1, .f32⟩ : BufTy).Contents (Elt Ideal))
      = broadcastInDim S2176x1 ![0] bcast_S2176_S2176x1_0 (m ((c : Thread nD τ).loc main_arg3)) := by
    unfold V
    after_results
  refine (congrFun e _).trans ?_
  pointwise

theorem iblk3_apply (c : Dev nD) (t : Fin cfg0.N) (v : Fin 32000) :
    iblk m c 3 t (ix2 0 v) = m ((c : Thread nD τ).loc main_arg7) (ix1 v) := by
  blk_simp [iblk]
  have hi : (win0_3.blk t).view.emb (ix2 0 v) = ix2 0 v := by blk_ext [idx3]
  refine (congrArg (V m c main_v35) hi).trans ?_
  have e : (V m c main_v35 : (⟨S1x32000, .f32⟩ : BufTy).Contents (Elt Ideal))
      = broadcastInDim S1x32000 ![1] bcast_S32000_S1x32000_1 (m ((c : Thread nD τ).loc main_arg7)) := by
    unfold V
    after_results
  refine (congrFun e _).trans ?_
  pointwise

theorem final4 (c : Dev nD) : (dats m 0 c).arrAt 4 cfg0.N = ld m c := by
  refine (dats m 0 c).arrAt_eq_of_covers 4 _ (by decide +kernel) fun t hf y => ?_
  blk_simp
  rw [after0_4]
  frame_out
  idx_vars y
  have hi : (win0_4.blk t).view.emb (ix2 y0 y1) = ix2 y0 y1 := by blk_ext [idx4]
  refine Eq.trans ?_ (congrArg (ld m c) hi).symm
  refine (pay1_apply _ _ _ _ y0 y1).trans ?_
  rw [iblk1_apply m c t]
  exact HeadsSpec.draft_of (iblk m c 0 t) (iblk m c 2 t) (iblk m c 3 t) (m ((c : Thread nD τ).loc main_arg2)) (m ((c : Thread nD τ).loc main_arg3))
    (m ((c : Thread nD τ).loc main_arg6)) (m ((c : Thread nD τ).loc main_arg7)) y0 y1 y0 y1
    (iblk0_apply m c t y0) (fun k => iblk2_apply m c t k y1) (iblk3_apply m c t y1)

/-- The reference's run: its three results named, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v28) = drafted (m ((c : Thread nD τ).loc main_arg0)) (m ((c : Thread nD τ).loc main_arg4)) (m ((c : Thread nD τ).loc main_arg5))
      ∧ r.2.mem ((c : Thread nD τ).loc main_v33) = last (m ((c : Thread nD τ).loc main_arg1)) (m ((c : Thread nD τ).loc main_arg4)) (m ((c : Thread nD τ).loc main_arg5))
      ∧ r.2.mem ((c : Thread nD τ).loc main_v36) = ld m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
    ⟨((h c).2 main_v28 (Pipeline.mem_restRefs_of main_v28 (by decide) (by decide))).trans (V_main_v28 m c),
      ((h c).2 main_v33 (Pipeline.mem_restRefs_of main_v33 (by decide) (by decide))).trans (V_main_v33 m c),
      (Value.post4 m r h c).trans (final4 m c),
      Value.kept_main_arg0 m r h c,
      Value.kept_main_arg1 m r h c,
      Value.kept_main_arg2 m r h c,
      Value.kept_main_arg3 m r h c,
      Value.kept_main_arg4 m r h c,
      Value.kept_main_arg5 m r h c,
      Value.kept_main_arg6 m r h c,
      Value.kept_main_arg7 m r h c⟩)
    (run_main m ρ)

end Cert.HeadsRefIdeal.RefValue

end
-- ==== Proof.HeadsClaims.lean ====
/-
  The claims about the head products: the runs end with the arguments unchanged, and the kernel and its reference end
  with the same three arrays of logits.
-/
module

public import proofs.«01_k».proof.Defs
public import proofs.«01_k».proof.Proof.Gen.Heads.Frame
public import proofs.«01_k».proof.Proof.HeadsTarget
public import proofs.«01_k».proof.Proof.HeadsDraft
public import proofs.«01_k».proof.Proof.HeadsRef

@[expose] public section

set_option maxRecDepth 16384

noncomputable section

open Idealize.ShloMosaic Idealize.ShloMosaic.TcCoe Idealize.SL.Sem

namespace Cert.Proof.HeadsClaims

theorem frame : Cert.quiescent_Heads := fun m ρ _ => Cert.Heads.Gen.frame m ρ

theorem frame_ideal : Cert.quiescent_HeadsIdeal := fun m ρ _ => Cert.HeadsIdeal.Gen.frame m ρ

theorem frame_ref : Cert.quiescent_HeadsRefIdeal := fun m ρ _ => Cert.HeadsRefIdeal.Gen.frame m ρ

theorem preserves : Cert.preserves_Heads_HeadsIdeal := trivial

/-- Both programs end with the logits of `HeadsSpec`. -/
theorem algebraic : Cert.algebraic_HeadsIdeal_HeadsRefIdeal := by
  intro m ρ m' ρ' _ hagree
  refine ⟨fun c => Cert.HeadsIdeal.RefValue.lt m c, fun c => Cert.HeadsIdeal.RefValue.lb m c, fun c => Cert.HeadsIdeal.RefValue.ld m c, ?_, ?_⟩
  · exact (θ_run Cert.HeadsIdeal.defs _ _).mono
      (fun _ h c => ⟨(h c).1.trans (Cert.HeadsIdeal.RefValue.final8 m c), (h c).2.1.trans (Cert.HeadsIdeal.RefValue.final9 m c),
        (h c).2.2.1.trans (Cert.HeadsIdeal.RefValue.final10 m c), (h c).2.2.2⟩)
      (Cert.HeadsIdeal.Value.run_blocks (F := Ideal) m ρ)
  refine (θ_run Cert.HeadsRefIdeal.defs _ _).mono (fun _ h c => ⟨(h c).1.trans ?_, (h c).2.1.trans ?_, (h c).2.2.1.trans ?_, (h c).2.2.2⟩)
    (Cert.HeadsRefIdeal.RefValue.run m' ρ')
  · obtain ⟨e0, e1, e2, e3, e4, e5, e6, e7⟩ := hagree c
    rw [e0, e4, e5]
    funext i
    refine (congrArg _ (eq_ix2 (n0 := 2176) (n1 := 32000) i)).trans ?_
    exact Cert.HeadsRefIdeal.RefValue.drafted_apply _ _ _ (i 0) (i 1)
  · obtain ⟨e0, e1, e2, e3, e4, e5, e6, e7⟩ := hagree c
    rw [e1, e4, e5]
    funext i
    refine (congrArg _ (eq_ix2 (n0 := 272) (n1 := 32000) i)).trans ?_
    exact Cert.HeadsRefIdeal.RefValue.last_apply _ _ _ (i 0) (i 1)
  · obtain ⟨e0, e1, e2, e3, e4, e5, e6, e7⟩ := hagree c
    unfold Cert.HeadsRefIdeal.RefValue.ld
    rw [e2, e3, e6, e7]
    rfl

end Cert.Proof.HeadsClaims

end
-- ==== Proof.SoftmaxFacts.lean ====
/-
  Facts on the extended reals that the softmax claims share: a row's largest value as a fold of `max`, the
  exponentials' sum of a row whose largest value is finite, and a product with a reciprocal as a quotient.
-/
module

public import Idealize.ShloMosaic.Lib.Pointwise
public import Idealize.ShloMosaic.Lib.IdealHost
public import Idealize.ShloMosaic.Lib.ReduceAll

@[expose] public section

noncomputable section

namespace Cert.SoftmaxFacts

open Idealize.ShloMosaic

/-- The word of minus infinity reads as the least extended real. -/
theorem neg_inf_f32 : Ideal.ofBits .f32 0xFF800000#32 = ⊥ := by
  simp [Ideal.ofBits, Ideal.ieee]

/-- The word of plus infinity reads as the greatest extended real. -/
theorem pos_inf_f32 : Ideal.ofBits .f32 0x7F800000#32 = ⊤ := by
  simp [Ideal.ofBits, Ideal.ieee]

/-- A fold of `max` from the least value is one of the folded values, unless nothing is folded. -/
theorem fold_max_mem {n : Nat} (hn : 0 < n) (f : Fin n → EReal) :
    ∃ k, Finset.univ.fold max ⊥ f = f k := by
  have h : Finset.univ.fold max ⊥ f = Finset.univ.sup f := rfl
  rw [h]
  haveI : Nonempty (Fin n) := ⟨⟨0, hn⟩⟩
  obtain ⟨k, -, hk⟩ := Finset.exists_mem_eq_sup Finset.univ Finset.univ_nonempty f
  exact ⟨k, hk⟩

theorem exp_nonneg (x : EReal) : 0 ≤ Ideal.exp x := by
  induction x with
  | bot => exact le_refl _
  | top => exact le_top
  | coe r => exact EReal.coe_nonneg.2 (Real.exp_pos r).le

/-- Where a row's largest value is finite, the sum of the exponentials of what lies below it is not zero: the
    largest value's own term is one. -/
theorem sum_exp_ne_zero {n : Nat} (hn : 0 < n) (f : Fin n → EReal) (M : EReal) (hM : Finset.univ.fold max ⊥ f = M)
    (hb : M ≠ ⊥) (ht : M ≠ ⊤) : (∑ k, Ideal.exp (f k - M)) ≠ 0 := by
  obtain ⟨k, hk⟩ := fold_max_mem hn f
  have hk' : f k = M := hk.symm.trans hM
  have h1 : Ideal.exp (f k - M) = 1 := by
    rw [hk']
    induction M with
    | bot => exact absurd rfl hb
    | top => exact absurd rfl ht
    | coe r =>
      rw [← EReal.coe_sub, sub_self]
      show ((Real.exp 0 : ℝ) : EReal) = 1
      rw [Real.exp_zero]; rfl
  have h2 : Ideal.exp (f k - M) ≤ ∑ k, Ideal.exp (f k - M) :=
    Finset.single_le_sum (f := fun k => Ideal.exp (f k - M)) (fun i _ => exp_nonneg _) (Finset.mem_univ k)
  intro h0
  rw [h0, h1] at h2
  exact absurd h2 (by norm_num)

end Cert.SoftmaxFacts

end
-- ==== Proof.RowReduce.lean ====
/-
  A matrix reduced along its rows, read at an index: the largest element and the sum of row `r`, as the kernel's
  reduction and as the host's write them, at any sizes.
-/
module

public import Idealize.ShloMosaic.Lib.Pointwise
public import Idealize.ShloMosaic.Lib.IdealHost

@[expose] public section

noncomputable section

namespace Cert.RowReduce

open Idealize.ShloMosaic

variable {n d : Nat}

/-- The index over row `r` at position `k`. -/
theorem lift_eq (h : Shape.Reduces ⟨2, ![n, d]⟩ [1] ⟨1, ![n]⟩) (r : Fin n) (k : Fin d) : h.lift (ix1 r) k = ix2 r k := by
  funext c
  apply Fin.ext
  refine (h.lift_val _ _ _).trans ?_
  unfold Shape.Reduces.liftVal
  match c with
  | ⟨0, _⟩ => rfl
  | ⟨1, _⟩ => rfl

/-- A row's largest element by the kernel's reduction. -/
theorem multiMax (v : FVec Ideal ⟨2, ![n, d]⟩ .f32) (acc : BitVec 32) (h : Shape.Reduces ⟨2, ![n, d]⟩ [1] ⟨1, ![n]⟩)
    (hφ : FKind.Formats .f32) (hacc : acc = FKind.maximumf.neutral .f32 hφ) (r : Fin n) :
    multiReduction .maximumf [1] ⟨1, ![n]⟩ v acc h hφ hacc (ix1 r)
      = Finset.univ.fold max (Ideal.ofBits .f32 acc) fun k : Fin d => v (ix2 r k) := by
  refine (Ideal.multiReduction_maximumf_single v acc h hφ hacc (ix1 r)).trans ?_
  exact congrArg (Finset.univ.fold max (Ideal.ofBits .f32 acc)) (funext fun k => congrArg v (lift_eq h r k))

/-- A row's sum by the kernel's reduction. -/
theorem multiSum (v : FVec Ideal ⟨2, ![n, d]⟩ .f32) (acc : BitVec 32) (h : Shape.Reduces ⟨2, ![n, d]⟩ [1] ⟨1, ![n]⟩)
    (hφ : FKind.Formats .f32) (hacc : acc = FKind.add.neutral .f32 hφ) (r : Fin n) :
    multiReduction .add [1] ⟨1, ![n]⟩ v acc h hφ hacc (ix1 r) = ∑ k : Fin d, v (ix2 r k) := by
  refine (Ideal.multiReduction_add_single v acc h hφ hacc (ix1 r)).trans ?_
  exact Finset.sum_congr rfl fun k _ => congrArg v (lift_eq h r k)

/-- A row's largest element by the host's reduction. -/
theorem hostMax {u : Shape} (v : FVec Ideal ⟨2, ![n, d]⟩ .f32) (init : u.Idx → Ideal .f32)
    (h' : Shape.ReducesTo ⟨2, ![n, d]⟩ [1] ⟨1, ![n]⟩) (h : Shape.Reduces ⟨2, ![n, d]⟩ [1] ⟨1, ![n]⟩) (hu : 0 < u.numel)
    (r : Fin n) : Host.reduce (FloatOps.maximumf : Ideal .f32 → Ideal .f32 → Ideal .f32) v init h' hu (ix1 r)
      = Finset.univ.fold max (init (Shape.Idx.first hu)) fun k : Fin d => v (ix2 r k) := by
  refine (Host.reduce_eq_fold_single (max : EReal → EReal → EReal) v init h' h hu (ix1 r)).trans ?_
  exact congrArg (Finset.univ.fold max (init (Shape.Idx.first hu))) (funext fun k => congrArg v (lift_eq h r k))

/-- A row's sum by the host's reduction. -/
theorem hostSum {u : Shape} (v : FVec Ideal ⟨2, ![n, d]⟩ .f32) (init : u.Idx → Ideal .f32)
    (h' : Shape.ReducesTo ⟨2, ![n, d]⟩ [1] ⟨1, ![n]⟩) (h : Shape.Reduces ⟨2, ![n, d]⟩ [1] ⟨1, ![n]⟩) (hu : 0 < u.numel)
    (r : Fin n) : Host.reduceAdd v init h' hu (ix1 r) = init (Shape.Idx.first hu) + ∑ k : Fin d, v (ix2 r k) := by
  rw [ValueIdx.hostReduceAdd_apply, Ideal.hostReduceAdd_single h' h]
  exact congrArg (init (Shape.Idx.first hu) + ·) (Finset.sum_congr rfl fun k _ => congrArg v (lift_eq h r k))

end Cert.RowReduce

end
-- ==== Proof.HostSoftmax.lean ====
/-
  The host's softmax along rows, read at an index, at any sizes: each exponential below the row's largest value, and
  that over the row's sum of them.
-/
module

public import proofs.«01_k».proof.Proof.RowReduce
public import proofs.«01_k».proof.Proof.SoftmaxFacts
public import Idealize.ShloMosaic.Lib.Pipeline.Value

@[expose] public section

noncomputable section

namespace Cert.HostSoftmax

open Idealize.ShloMosaic

variable {n d : Nat}

/-- The largest value of row `r`. -/
def top (x : FVec Ideal ⟨2, ![n, d]⟩ .f32) (r : Fin n) : EReal := Finset.univ.fold max ⊥ fun k : Fin d => x (ix2 r k)

/-- What row `r`'s exponentials below its largest value sum to. -/
def total (x : FVec Ideal ⟨2, ![n, d]⟩ .f32) (r : Fin n) : EReal := ∑ k : Fin d, Ideal.exp (x (ix2 r k) - top x r)

/-- Row `r`'s softmax at position `l`. -/
def softmax (x : FVec Ideal ⟨2, ![n, d]⟩ .f32) (r : Fin n) (l : Fin d) : EReal :=
  Ideal.div (Ideal.exp (x (ix2 r l) - top x r)) (total x r)

/-- Every row's largest value is finite. -/
def TopFinite (x : FVec Ideal ⟨2, ![n, d]⟩ .f32) : Prop := ∀ r, top x r ≠ ⊥ ∧ top x r ≠ ⊤

theorem total_ne_zero {x : FVec Ideal ⟨2, ![n, d]⟩ .f32} (hd : 0 < d) (hx : TopFinite x) (r : Fin n) : total x r ≠ 0 :=
  SoftmaxFacts.sum_exp_ne_zero hd _ _ rfl (hx r).1 (hx r).2

/-- The largest value depends on the row's values only. -/
theorem top_congr {n' : Nat} {x : FVec Ideal ⟨2, ![n, d]⟩ .f32} {y : FVec Ideal ⟨2, ![n', d]⟩ .f32} {r : Fin n} {r' : Fin n'}
    (h : ∀ k, x (ix2 r k) = y (ix2 r' k)) : top x r = top y r' :=
  congrArg (fun f : Fin d → EReal => Finset.univ.fold max ⊥ f) (funext h)

/-- The sum of exponentials depends on the row's values only. -/
theorem total_congr {n' : Nat} {x : FVec Ideal ⟨2, ![n, d]⟩ .f32} {y : FVec Ideal ⟨2, ![n', d]⟩ .f32} {r : Fin n} {r' : Fin n'}
    (h : ∀ k, x (ix2 r k) = y (ix2 r' k)) : total x r = total y r' :=
  Finset.sum_congr rfl fun k _ => by rw [h, top_congr h]

/-- A column of one value per row, spread along the rows. -/
theorem spread_apply {α : Type} (v : (⟨1, ![n]⟩ : Shape).Idx → α) (h1 : Shape.BroadcastsInDim ⟨1, ![n]⟩ ⟨2, ![n, 1]⟩ ![0])
    (h2 : Shape.BroadcastsInDim ⟨2, ![n, 1]⟩ ⟨2, ![n, d]⟩ ![0, 1]) (r : Fin n) (l : Fin d) :
    broadcastInDim ⟨2, ![n, d]⟩ ![0, 1] h2 (broadcastInDim ⟨2, ![n, 1]⟩ ![0] h1 v) (ix2 r l) = v (ix1 r) := by
  have hr := r.isLt
  refine (broadcastInDim_apply _ h2 _ _ (ix2 r 0) fun a => ?_).trans (broadcastInDim_apply _ h1 _ _ (ix1 r) fun a => ?_)
  · match a with
    | ⟨0, _⟩ => show r.val = if n = 1 then 0 else r.val; split_ifs <;> omega
    | ⟨1, _⟩ => rfl
  · match a with
    | ⟨0, _⟩ => show r.val = if n = 1 then 0 else r.val; split_ifs <;> omega

variable (x : FVec Ideal ⟨2, ![n, d]⟩ .f32) (hr' : Shape.ReducesTo ⟨2, ![n, d]⟩ [1] ⟨1, ![n]⟩)
  (hr : Shape.Reduces ⟨2, ![n, d]⟩ [1] ⟨1, ![n]⟩) (hu : 0 < (⟨0, ![]⟩ : Shape).numel)
  (h0 : Shape.BroadcastsInDim ⟨0, ![]⟩ ⟨1, ![n]⟩ ![])
  (h1 : Shape.BroadcastsInDim ⟨1, ![n]⟩ ⟨2, ![n, 1]⟩ ![0])
  (h2 : Shape.BroadcastsInDim ⟨2, ![n, 1]⟩ ⟨2, ![n, d]⟩ ![0, 1])

include hr in
/-- The host's row maximum from minus infinity. -/
theorem reduceMax_apply (r : Fin n) :
    Host.reduce (FloatOps.maximumf : Ideal .f32 → Ideal .f32 → Ideal .f32) x (constant ⟨0, ![]⟩ .f32 0xFF800000#32) hr' hu (ix1 r) = top x r := by
  refine (RowReduce.hostMax x _ hr' hr hu r).trans ?_
  exact congrArg (fun b : EReal => Finset.univ.fold max b fun k : Fin d => x (ix2 r k)) SoftmaxFacts.neg_inf_f32

include hr in
/-- An exponential below the row's largest value. -/
theorem exp_apply (r : Fin n) (l : Fin d) :
    Host.exp (subf x (broadcastInDim ⟨2, ![n, d]⟩ ![0, 1] h2 (broadcastInDim ⟨2, ![n, 1]⟩ ![0] h1
      (maximumf (broadcastInDim ⟨1, ![n]⟩ ![] h0 (constant ⟨0, ![]⟩ .f32 0xFF800000#32))
        (Host.reduce (FloatOps.maximumf : Ideal .f32 → Ideal .f32 → Ideal .f32) x (constant ⟨0, ![]⟩ .f32 0xFF800000#32) hr' hu))))) (ix2 r l)
      = Ideal.exp (x (ix2 r l) - top x r) := by
  refine congrArg (fun b : EReal => Ideal.exp (x (ix2 r l) - b)) ((spread_apply _ h1 h2 r l).trans ?_)
  refine (congrArg₂ (max : EReal → EReal → EReal) ((ValueIdx.broadcastInDim_scalar_apply h0 _ _).trans SoftmaxFacts.neg_inf_f32)
    (reduceMax_apply x hr' hr hu r)).trans ?_
  exact max_eq_right bot_le

include hr in
/-- The host's softmax. -/
theorem softmax_apply (r : Fin n) (l : Fin d) :
    Host.divf (Host.exp (subf x (broadcastInDim ⟨2, ![n, d]⟩ ![0, 1] h2 (broadcastInDim ⟨2, ![n, 1]⟩ ![0] h1
      (maximumf (broadcastInDim ⟨1, ![n]⟩ ![] h0 (constant ⟨0, ![]⟩ .f32 0xFF800000#32))
        (Host.reduce (FloatOps.maximumf : Ideal .f32 → Ideal .f32 → Ideal .f32) x (constant ⟨0, ![]⟩ .f32 0xFF800000#32) hr' hu))))))
      (broadcastInDim ⟨2, ![n, d]⟩ ![0, 1] h2 (broadcastInDim ⟨2, ![n, 1]⟩ ![0] h1
        (Host.reduceAdd (Host.exp (subf x (broadcastInDim ⟨2, ![n, d]⟩ ![0, 1] h2 (broadcastInDim ⟨2, ![n, 1]⟩ ![0] h1
          (maximumf (broadcastInDim ⟨1, ![n]⟩ ![] h0 (constant ⟨0, ![]⟩ .f32 0xFF800000#32))
            (Host.reduce (FloatOps.maximumf : Ideal .f32 → Ideal .f32 → Ideal .f32) x (constant ⟨0, ![]⟩ .f32 0xFF800000#32) hr' hu))))))
          (constant ⟨0, ![]⟩ .f32 0x00000000#32) hr' hu))) (ix2 r l)
      = softmax x r l := by
  refine congrArg₂ Ideal.div (exp_apply x hr' hr hu h0 h1 h2 r l) ((spread_apply _ h1 h2 r l).trans ?_)
  refine (RowReduce.hostSum _ _ hr' hr hu r).trans ?_
  refine (congrArg₂ (· + ·) Ideal.ofBits_zero_f32 (Finset.sum_congr rfl fun k _ => exp_apply x hr' hr hu h0 h1 h2 r k)).trans ?_
  exact zero_add _

/-- Rounding to bf16 is the identity on the extended reals. -/
theorem truncf_apply {s : Shape} (v : FVec Ideal s .f32) (h : FTy.bf16.bits < FTy.f32.bits) (i : s.Idx) : truncf .bf16 v h i = v i := rfl

/-- Both comparisons of a conjunction of comparisons hold where it reads one. -/
theorem and_cmp_apply {s : Shape} (a b c e : FVec Ideal s .f32) (i : s.Idx) (h : andi (cmpf .ogt a b) (cmpf .olt c e) i = 1#1) :
    b i < a i ∧ c i < e i := by
  change IntOp.andi (Ideal.cmp .ogt (a i) (b i)) (Ideal.cmp .olt (c i) (e i)) = 1#1 at h
  simp only [Ideal.cmp, IntOp.andi] at h
  by_cases h1 : b i < a i <;> by_cases h2 : c i < e i <;> simp_all [Ideal.cmp]

include hr in
/-- A row's largest value lies strictly between the infinities where the host's comparisons say so. -/
theorem top_finite (r : Fin n) (h : andi
      (cmpf .ogt (Host.reduce (FloatOps.maximumf : Ideal .f32 → Ideal .f32 → Ideal .f32) x (constant ⟨0, ![]⟩ .f32 0xFF800000#32) hr' hu)
        (broadcastInDim ⟨1, ![n]⟩ ![] h0 (constant ⟨0, ![]⟩ .f32 0xFF800000#32)))
      (cmpf .olt (Host.reduce (FloatOps.maximumf : Ideal .f32 → Ideal .f32 → Ideal .f32) x (constant ⟨0, ![]⟩ .f32 0xFF800000#32) hr' hu)
        (broadcastInDim ⟨1, ![n]⟩ ![] h0 (constant ⟨0, ![]⟩ .f32 0x7F800000#32))) (ix1 r) = 1#1) :
    top x r ≠ ⊥ ∧ top x r ≠ ⊤ := by
  have h' := and_cmp_apply _ _ _ _ _ h
  have hm := reduceMax_apply x hr' hr hu r
  have hb := (ValueIdx.broadcastInDim_scalar_apply h0 (constant (F := Ideal) ⟨0, ![]⟩ .f32 0xFF800000#32) (ix1 r)).trans SoftmaxFacts.neg_inf_f32
  have ht := (ValueIdx.broadcastInDim_scalar_apply h0 (constant (F := Ideal) ⟨0, ![]⟩ .f32 0x7F800000#32) (ix1 r)).trans SoftmaxFacts.pos_inf_f32
  rw [hm, hb, ht] at h'
  exact ⟨ne_of_gt h'.1, ne_of_lt h'.2⟩

end Cert.HostSoftmax

end
-- ==== Proof.BonusValue.lean ====
/-
  The probabilities after the last position: what the kernel of `bonus` computes on sixteen rows at a time is the
  softmax of each row, the function the reference writes with `jax.nn.softmax`, where every row's largest logit is
  finite.

  The kernel multiplies each exponential by the reciprocal of the row's sum, the reference divides by the sum; the two
  agree as soon as the sum is not zero (`SoftmaxFacts.sum_exp_ne_zero`).
-/
module

public import proofs.«01_k».proof.Defs
public import proofs.«01_k».proof.Proof.Gen.Bonus.Frame
public import proofs.«01_k».proof.Proof.Gen.BonusIdeal.Value
public import proofs.«01_k».proof.Proof.Gen.BonusRefIdeal.Run
public import proofs.«01_k».proof.Proof.Gen.Pre_largest_logits_finite
public import proofs.«01_k».proof.Proof.SoftmaxFacts
public import proofs.«01_k».proof.Proof.HostSoftmax
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Pre_largest_logits_finite

variable [Facts]

open Facts

/-- What the precondition says: every row's largest logit is finite. -/
theorem topFinite (x : FVec Ideal S272x32000 .f32) (h : fn (F := Ideal) x = fun _ => 1#1) : HostSoftmax.TopFinite x := by
  intro r
  haveI : Subsingleton S_.Idx := ⟨fun a b => funext fun i => i.elim0⟩
  have h0 : Host.reduce IntOp.andi (andi
      (cmpf .ogt (Host.reduce FloatOps.maximumf x (constant S_ .f32 0xFF800000#32) reducesTo_S272x32000_S272_d1 h_S_)
        (broadcastInDim S272 ![] bcast_S_S272 (constant S_ .f32 0xFF800000#32)))
      (cmpf .olt (Host.reduce FloatOps.maximumf x (constant S_ .f32 0xFF800000#32) reducesTo_S272x32000_S272_d1 h_S_)
        (broadcastInDim S272 ![] bcast_S_S272 (constant S_ .f32 0x7F800000#32))))
      (constantI S_ 1 1#1) reducesTo_S272_S_d0 h_S_ (fun a => a.elim0) = 1#1 := congrFun h (fun a => a.elim0)
  exact HostSoftmax.top_finite x _ (by decide) _ _ r (Host.reduce_andi_all _ _ _ _ _ h0 (ix1 r))

end Cert.Pre_largest_logits_finite

namespace Cert.BonusIdeal.RefValue

open Cert.BonusIdeal Cert.BonusIdeal.Gen

variable (m : (ℓ : Loc nD τ sig) → Buf (Elt Ideal) ℓ)

/-- The result array: each row's softmax. -/
def G (c : Dev nD) : Buf (Elt Ideal) ((c : Thread nD τ).loc main_v0) :=
  fun i => HostSoftmax.softmax (n := 272) (d := 32000) (m ((c : Thread nD τ).loc main_arg0)) (i 0) (i 1)

/-- What a grid point stores: each row of its block times the reciprocal of the row's sum. -/
theorem pay (v : FVec Ideal S16x32000 .f32) (r : Fin 16) (l : Fin 32000) :
    k0_pay1 (F := Ideal) v (ix2 r l) = Ideal.exp (v (ix2 r l) - HostSoftmax.top v r) * Ideal.div 1 (HostSoftmax.total v r) := by
  have hm : ∀ r, multiReduction .maximumf [1] S16 v 0xFF800000#32 reduces_S16x32000_S16 (.inl rfl) rfl (ix1 r) = HostSoftmax.top v r := fun r => by
    have h := RowReduce.multiMax v 0xFF800000#32 reduces_S16x32000_S16 (.inl rfl) rfl r
    rw [SoftmaxFacts.neg_inf_f32] at h
    exact h
  have hs := fun w r => RowReduce.multiSum (n := 16) (d := 32000) w 0x00000000#32 reduces_S16x32000_S16 (.inl rfl) rfl r
  unfold k0_pay1 HostSoftmax.total
  dsimp only
  generalize HostSoftmax.top v = tv at hm ⊢
  generalize multiReduction .maximumf [1] S16 v 0xFF800000#32 reduces_S16x32000_S16 (.inl rfl) rfl = mx at hm ⊢
  have hs' := hs (exp (subf v (broadcastTo S16x32000 (shapeCast S16x1 mx shapeCasts_S16_S16x1) broadcasts_S16x1_S16x32000))) r
  generalize multiReduction .add [1] S16 (exp (subf v (broadcastTo S16x32000 (shapeCast S16x1 mx shapeCasts_S16_S16x1) broadcasts_S16x1_S16x32000))) 0x00000000#32 reduces_S16x32000_S16 (.inl rfl) rfl = sm at hs' ⊢
  clear hs
  pointwise [hm] at hs'
  pointwise [hm, hs']

theorem idx0 : ∀ t : Fin cfg0.N, win0_0.index t = ![t.val, 0] := (by decide +kernel : ∀ t : Fin grid0.N, _)

theorem idx1 : ∀ t : Fin cfg0.N, win0_1.index t = ![t.val, 0] := (by decide +kernel : ∀ t : Fin grid0.N, _)

theorem final (c : Dev nD) (hx : HostSoftmax.TopFinite (n := 272) (d := 32000) (m ((c : Thread nD τ).loc main_arg0))) :
    (dats m 0 c).arrAt 1 cfg0.N = G m c := by
  refine (dats m 0 c).arrAt_eq_of_covers 1 _ (by decide +kernel) fun t hf y => ?_
  blk_simp
  rw [after0_1]
  frame_out
  idx_vars y
  rw [pay]
  have ht : t.val < 17 := t.isLt
  have hk : ∀ k, iblk m c 0 t (ix2 y0 k) = m ((c : Thread nD τ).loc main_arg0) (ix2 ⟨16 * t.val + y0.val, by omega⟩ k) := fun k => by
    blk_simp [iblk]
    refine (congrFun (V_main_arg0 m c) _).trans (congrArg _ ?_)
    blk_ext [idx0]
  rw [HostSoftmax.top_congr hk, HostSoftmax.total_congr hk, hk]
  refine (Ideal.mul_one_div (HostSoftmax.total_ne_zero (by norm_num) hx _)).trans ?_
  have hi : (win0_1.blk t).view.emb (ix2 y0 y1) = ix2 ⟨16 * t.val + y0.val, by omega⟩ y1 := by blk_ext [idx1]
  exact (congrArg (G m c) hi).symm

end Cert.BonusIdeal.RefValue

namespace Cert.BonusRefIdeal.RefValue

open Cert.BonusRefIdeal Cert.BonusRefIdeal.Gen

/-- The reference: the host's softmax, rounded. -/
theorem ref_eq (x : FVec Ideal S272x32000 .f32) (r : Fin 272) (l : Fin 32000) : truncf .bf16 (Host.divf (Host.exp (subf x (broadcastInDim S272x32000 ![0, 1] bcast_S272x1_S272x32000_0_1 (broadcastInDim S272x1 ![0] bcast_S272_S272x1_0 (maximumf (broadcastInDim S272 ![] bcast_S_S272 (constant S_ .f32 0xFF800000#32)) (Host.reduce FloatOps.maximumf x (constant S_ .f32 0xFF800000#32) reducesTo_S272x32000_S272_d1 h_S_)))))) (broadcastInDim S272x32000 ![0, 1] bcast_S272x1_S272x32000_0_1 (broadcastInDim S272x1 ![0] bcast_S272_S272x1_0 (Host.reduceAdd (Host.exp (subf x (broadcastInDim S272x32000 ![0, 1] bcast_S272x1_S272x32000_0_1 (broadcastInDim S272x1 ![0] bcast_S272_S272x1_0 (maximumf (broadcastInDim S272 ![] bcast_S_S272 (constant S_ .f32 0xFF800000#32)) (Host.reduce FloatOps.maximumf x (constant S_ .f32 0xFF800000#32) reducesTo_S272x32000_S272_d1 h_S_)))))) (constant S_ .f32 0x00000000#32) reducesTo_S272x32000_S272_d1 h_S_)))) bitsLt_bf16_f32 (ix2 r l)
   = HostSoftmax.softmax x r l :=
  (HostSoftmax.truncf_apply _ _ _).trans <| HostSoftmax.softmax_apply x _ (by decide) _ _ _ _ _ _

end Cert.BonusRefIdeal.RefValue

end
-- ==== Proof.BonusClaims.lean ====
/-
  The claims about the probabilities after the last position: the runs end with the arguments unchanged, and the kernel
  and its reference end with the same array where every row's largest logit is finite.
-/
module

public import proofs.«01_k».proof.Proof.BonusValue

@[expose] public section

set_option maxRecDepth 16384

noncomputable section

open Idealize.ShloMosaic Idealize.ShloMosaic.TcCoe Idealize.SL.Sem

namespace Cert.Proof.BonusClaims

theorem frame : Cert.quiescent_Bonus := fun m ρ _ => Cert.Bonus.Gen.frame m ρ

theorem frame_ideal : Cert.quiescent_BonusIdeal := fun m ρ _ => Cert.BonusIdeal.Gen.frame m ρ

theorem frame_ideal_pre : Cert.quiescent_BonusIdeal_pre_largest_logits_finite := fun m ρ _ => Cert.BonusIdeal.Gen.frame m ρ

theorem ref_run (m : (ℓ : Loc Cert.BonusRefIdeal.nD Cert.BonusRefIdeal.τ Cert.BonusRefIdeal.sig) → Buf (Elt Ideal) ℓ)
    (ρ : Dev Cert.BonusRefIdeal.nD → PrngReg) :
    θ_run (Cert.BonusRefIdeal.defs (F := Ideal)) (onTc (τ := Cert.BonusRefIdeal.τ) (Cert.BonusRefIdeal.main (F := Ideal))) ⟨m, fun _ => 0, ρ⟩
      (fun r => (∀ c : Dev Cert.BonusRefIdeal.nD,
        r.2.mem ((c.tc : Thread Cert.BonusRefIdeal.nD Cert.BonusRefIdeal.τ).loc Cert.BonusRefIdeal.main_arg0) = m ((c.tc : Thread Cert.BonusRefIdeal.nD Cert.BonusRefIdeal.τ).loc Cert.BonusRefIdeal.main_arg0))
        ∧ r.2.sem = fun _ => 0) :=
  (θ_run Cert.BonusRefIdeal.defs _ _).mono (fun r h => ⟨fun c => (h c).2, Idealize.ShloMosaic.sem_eq_zero_of_no_sems (by decide) r.2⟩)
    (Cert.BonusRefIdeal.Value.run (F := Ideal) m ρ)

theorem frame_ref : Cert.quiescent_BonusRefIdeal := fun m ρ _ => ref_run m ρ

theorem frame_ref_pre : Cert.quiescent_BonusRefIdeal_pre_largest_logits_finite := fun m ρ _ => ref_run m ρ

theorem preserves : Cert.preserves_Bonus_BonusIdeal := trivial

/-- Both programs end with each row's softmax. -/
theorem algebraic : Cert.algebraic_BonusIdeal_BonusRefIdeal_pre_largest_logits_finite := by
  intro m ρ m' ρ' hpre hagree
  refine ⟨fun c => Cert.BonusIdeal.RefValue.G m c, ?_, ?_⟩
  · exact (θ_run Cert.BonusIdeal.defs _ _).mono
      (fun _ h c => ⟨(h c).1.trans (Cert.BonusIdeal.RefValue.final m c (Cert.Pre_largest_logits_finite.topFinite _ (hpre c))), (h c).2⟩)
      (Cert.BonusIdeal.Value.run_blocks (F := Ideal) m ρ)
  refine (θ_run Cert.BonusRefIdeal.defs _ _).mono (fun _ h c => ⟨(h c).1.trans (funext fun i => ?_), (h c).2⟩)
    (Cert.BonusRefIdeal.Value.run (F := Ideal) m' ρ')
  rw [hagree c]
  refine (congrArg _ (eq_ix2 (n0 := 272) (n1 := 32000) i)).trans ?_
  exact Cert.BonusRefIdeal.RefValue.ref_eq _ (i 0) (i 1)

end Cert.Proof.BonusClaims

end
-- ==== Proof.VerifyFrame.lean ====
/-
  The frame of the verification kernel over words: it terminates without fault and leaves its arguments unchanged,
  for every table of tokens that meets the side conditions its body assumes. What it leaves in its results is not named.
-/
module

public import proofs.«01_k».proof.Proof.Gen.Verify
public import proofs.«01_k».proof.Proof.Gen.Verify.Launch
public import proofs.«01_k».proof.Proof.Gen.Verify.Skeleton
public import proofs.«01_k».proof.Proof.Gen.Verify.Loops
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Verify.Hand

open Cert.Verify Cert.Verify.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%arg3)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (result 0 (%0#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 0 (by decide) (by decide) (Pipeline.Window.sep_of_coord cc0_transform_3 0 0 (fun _ => rfl) (by decide)) (P := 1) (m := 0) (by decide) rfl t).mpr (Nat.mod_one _) : ∀ t : Fin grid0.N, Pipeline.Window.flushOf grid0 true cc0_transform_3 t = true)
/-- Window 4 (result 1 (%0#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_verify (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; `VerifyClaims` proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2176 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Verify`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c))⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S8x1 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S8x32000 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S8x32000 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S8x32000 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S8x128 .f32 := spec0_4.stage ((cfgM m hO).slots t 4)
abbrev hs0_4 (hO : Ok m) (t : Fin (cfgM m hO).N) : (ms0_4 m hO t).IsWhole := hstage0_4 (((cfgM m hO).slots t 4).cast nbuf0_4)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; `VerifyClaims` proves it from the certificate's precondition (`hyps`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S2176) (k0_off3 (grid0.coords t)) S1.size (k0_off3_inb (grid0.coords t))).toLoadRect (tbl m 0) (Shape.Idx.first (numel1_S1.symm ▸ Nat.one_pos)))
    ∧ k0_chk2 (tbM0_0.view.readAt (Elt F) (Rect.unit (s := S2176) (k0_off5 (grid0.coords t)) S1.size (k0_off5_inb (grid0.coords t))).toLoadRect (tbl m 0) (Shape.Idx.first (numel1_S1.symm ▸ Nat.one_pos)))
    ∧ k0_chk3 (tbM0_0.view.readAt (Elt F) (Rect.unit (s := S2176) (k0_off7 (grid0.coords t)) S1.size (k0_off7_inb (grid0.coords t))).toLoadRect (tbl m 0) (Shape.Idx.first (numel1_S1.symm ▸ Nat.one_pos)))
    ∧ k0_chk4 (tbM0_0.view.readAt (Elt F) (Rect.unit (s := S2176) (k0_off9 (grid0.coords t)) S1.size (k0_off9_inb (grid0.coords t))).toLoadRect (tbl m 0) (Shape.Idx.first (numel1_S1.symm ▸ Nat.one_pos)))
    ∧ k0_chk5 (tbM0_0.view.readAt (Elt F) (Rect.unit (s := S2176) (k0_off11 (grid0.coords t)) S1.size (k0_off11_inb (grid0.coords t))).toLoadRect (tbl m 0) (Shape.Idx.first (numel1_S1.symm ▸ Nat.one_pos)))
    ∧ k0_chk6 (tbM0_0.view.readAt (Elt F) (Rect.unit (s := S2176) (k0_off13 (grid0.coords t)) S1.size (k0_off13_inb (grid0.coords t))).toLoadRect (tbl m 0) (Shape.Idx.first (numel1_S1.symm ▸ Nat.one_pos)))
    ∧ k0_chk7 (tbM0_0.view.readAt (Elt F) (Rect.unit (s := S2176) (k0_off15 (grid0.coords t)) S1.size (k0_off15_inb (grid0.coords t))).toLoadRect (tbl m 0) (Shape.Idx.first (numel1_S1.symm ▸ Nat.one_pos)))
    ∧ k0_chk8 (tbM0_0.view.readAt (Elt F) (Rect.unit (s := S2176) (k0_off17 (grid0.coords t)) S1.size (k0_off17_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what `VerifyClaims.hyps` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S2176) (k0_off3 (grid0.coords t)) S1.size (k0_off3_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S2176) (k0_off3 (grid0.coords t)) S1.size (k0_off3_inb (grid0.coords t))).toLoadRect (tbl m 0) (Shape.Idx.first (numel1_S1.symm ▸ Nat.one_pos))) := (hH c t).1
/-- Conjunct 1 of `Gen.Hyps` at point `t`: the side condition `k0_chk2` the body assumes as `k0_hw2`. -/
abbrev Hyps.p1 (m : (ℓ : Loc nD τ sig) → Buf (Elt F) ℓ) (hO : Ok m) (c : Dev nD) (t : Fin (cfgM m hO).N) : Prop :=
  k0_chk2 (tbM0_0.view.readAt (Elt F) (Rect.unit (s := S2176) (k0_off5 (grid0.coords t)) S1.size (k0_off5_inb (grid0.coords t))).toLoadRect (tbl m 0) (Shape.Idx.first (numel1_S1.symm ▸ Nat.one_pos)))
variable {m} in
theorem Hyps.c1 {hO : Ok m} (hH : Hyps m hO) (c : Dev nD) (t : Fin (cfgM m hO).N) :
    k0_chk2 (tbM0_0.view.readAt (Elt F) (Rect.unit (s := S2176) (k0_off5 (grid0.coords t)) S1.size (k0_off5_inb (grid0.coords t))).toLoadRect (tbl m 0) (Shape.Idx.first (numel1_S1.symm ▸ Nat.one_pos))) := (hH c t).2.1
/-- Conjunct 2 of `Gen.Hyps` at point `t`: the side condition `k0_chk3` the body assumes as `k0_hw3`. -/
abbrev Hyps.p2 (m : (ℓ : Loc nD τ sig) → Buf (Elt F) ℓ) (hO : Ok m) (c : Dev nD) (t : Fin (cfgM m hO).N) : Prop :=
  k0_chk3 (tbM0_0.view.readAt (Elt F) (Rect.unit (s := S2176) (k0_off7 (grid0.coords t)) S1.size (k0_off7_inb (grid0.coords t))).toLoadRect (tbl m 0) (Shape.Idx.first (numel1_S1.symm ▸ Nat.one_pos)))
variable {m} in
theorem Hyps.c2 {hO : Ok m} (hH : Hyps m hO) (c : Dev nD) (t : Fin (cfgM m hO).N) :
    k0_chk3 (tbM0_0.view.readAt (Elt F) (Rect.unit (s := S2176) (k0_off7 (grid0.coords t)) S1.size (k0_off7_inb (grid0.coords t))).toLoadRect (tbl m 0) (Shape.Idx.first (numel1_S1.symm ▸ Nat.one_pos))) := (hH c t).2.2.1
/-- Conjunct 3 of `Gen.Hyps` at point `t`: the side condition `k0_chk4` the body assumes as `k0_hw4`. -/
abbrev Hyps.p3 (m : (ℓ : Loc nD τ sig) → Buf (Elt F) ℓ) (hO : Ok m) (c : Dev nD) (t : Fin (cfgM m hO).N) : Prop :=
  k0_chk4 (tbM0_0.view.readAt (Elt F) (Rect.unit (s := S2176) (k0_off9 (grid0.coords t)) S1.size (k0_off9_inb (grid0.coords t))).toLoadRect (tbl m 0) (Shape.Idx.first (numel1_S1.symm ▸ Nat.one_pos)))
variable {m} in
theorem Hyps.c3 {hO : Ok m} (hH : Hyps m hO) (c : Dev nD) (t : Fin (cfgM m hO).N) :
    k0_chk4 (tbM0_0.view.readAt (Elt F) (Rect.unit (s := S2176) (k0_off9 (grid0.coords t)) S1.size (k0_off9_inb (grid0.coords t))).toLoadRect (tbl m 0) (Shape.Idx.first (numel1_S1.symm ▸ Nat.one_pos))) := (hH c t).2.2.2.1
/-- Conjunct 4 of `Gen.Hyps` at point `t`: the side condition `k0_chk5` the body assumes as `k0_hw5`. -/
abbrev Hyps.p4 (m : (ℓ : Loc nD τ sig) → Buf (Elt F) ℓ) (hO : Ok m) (c : Dev nD) (t : Fin (cfgM m hO).N) : Prop :=
  k0_chk5 (tbM0_0.view.readAt (Elt F) (Rect.unit (s := S2176) (k0_off11 (grid0.coords t)) S1.size (k0_off11_inb (grid0.coords t))).toLoadRect (tbl m 0) (Shape.Idx.first (numel1_S1.symm ▸ Nat.one_pos)))
variable {m} in
theorem Hyps.c4 {hO : Ok m} (hH : Hyps m hO) (c : Dev nD) (t : Fin (cfgM m hO).N) :
    k0_chk5 (tbM0_0.view.readAt (Elt F) (Rect.unit (s := S2176) (k0_off11 (grid0.coords t)) S1.size (k0_off11_inb (grid0.coords t))).toLoadRect (tbl m 0) (Shape.Idx.first (numel1_S1.symm ▸ Nat.one_pos))) := (hH c t).2.2.2.2.1
/-- Conjunct 5 of `Gen.Hyps` at point `t`: the side condition `k0_chk6` the body assumes as `k0_hw6`. -/
abbrev Hyps.p5 (m : (ℓ : Loc nD τ sig) → Buf (Elt F) ℓ) (hO : Ok m) (c : Dev nD) (t : Fin (cfgM m hO).N) : Prop :=
  k0_chk6 (tbM0_0.view.readAt (Elt F) (Rect.unit (s := S2176) (k0_off13 (grid0.coords t)) S1.size (k0_off13_inb (grid0.coords t))).toLoadRect (tbl m 0) (Shape.Idx.first (numel1_S1.symm ▸ Nat.one_pos)))
variable {m} in
theorem Hyps.c5 {hO : Ok m} (hH : Hyps m hO) (c : Dev nD) (t : Fin (cfgM m hO).N) :
    k0_chk6 (tbM0_0.view.readAt (Elt F) (Rect.unit (s := S2176) (k0_off13 (grid0.coords t)) S1.size (k0_off13_inb (grid0.coords t))).toLoadRect (tbl m 0) (Shape.Idx.first (numel1_S1.symm ▸ Nat.one_pos))) := (hH c t).2.2.2.2.2.1
/-- Conjunct 6 of `Gen.Hyps` at point `t`: the side condition `k0_chk7` the body assumes as `k0_hw7`. -/
abbrev Hyps.p6 (m : (ℓ : Loc nD τ sig) → Buf (Elt F) ℓ) (hO : Ok m) (c : Dev nD) (t : Fin (cfgM m hO).N) : Prop :=
  k0_chk7 (tbM0_0.view.readAt (Elt F) (Rect.unit (s := S2176) (k0_off15 (grid0.coords t)) S1.size (k0_off15_inb (grid0.coords t))).toLoadRect (tbl m 0) (Shape.Idx.first (numel1_S1.symm ▸ Nat.one_pos)))
variable {m} in
theorem Hyps.c6 {hO : Ok m} (hH : Hyps m hO) (c : Dev nD) (t : Fin (cfgM m hO).N) :
    k0_chk7 (tbM0_0.view.readAt (Elt F) (Rect.unit (s := S2176) (k0_off15 (grid0.coords t)) S1.size (k0_off15_inb (grid0.coords t))).toLoadRect (tbl m 0) (Shape.Idx.first (numel1_S1.symm ▸ Nat.one_pos))) := (hH c t).2.2.2.2.2.2.1
/-- Conjunct 7 of `Gen.Hyps` at point `t`: the side condition `k0_chk8` the body assumes as `k0_hw8`. -/
abbrev Hyps.p7 (m : (ℓ : Loc nD τ sig) → Buf (Elt F) ℓ) (hO : Ok m) (c : Dev nD) (t : Fin (cfgM m hO).N) : Prop :=
  k0_chk8 (tbM0_0.view.readAt (Elt F) (Rect.unit (s := S2176) (k0_off17 (grid0.coords t)) S1.size (k0_off17_inb (grid0.coords t))).toLoadRect (tbl m 0) (Shape.Idx.first (numel1_S1.symm ▸ Nat.one_pos)))
variable {m} in
theorem Hyps.c7 {hO : Ok m} (hH : Hyps m hO) (c : Dev nD) (t : Fin (cfgM m hO).N) :
    k0_chk8 (tbM0_0.view.readAt (Elt F) (Rect.unit (s := S2176) (k0_off17 (grid0.coords t)) S1.size (k0_off17_inb (grid0.coords t))).toLoadRect (tbl m 0) (Shape.Idx.first (numel1_S1.symm ▸ Nat.one_pos))) := (hH c t).2.2.2.2.2.2.2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t)
    (p2 : ∀ (c : Dev nD) (t : Fin (cfgM m hO).N), Hyps.p2 m hO c t)
    (p3 : ∀ (c : Dev nD) (t : Fin (cfgM m hO).N), Hyps.p3 m hO c t)
    (p4 : ∀ (c : Dev nD) (t : Fin (cfgM m hO).N), Hyps.p4 m hO c t)
    (p5 : ∀ (c : Dev nD) (t : Fin (cfgM m hO).N), Hyps.p5 m hO c t)
    (p6 : ∀ (c : Dev nD) (t : Fin (cfgM m hO).N), Hyps.p6 m hO c t)
    (p7 : ∀ (c : Dev nD) (t : Fin (cfgM m hO).N), Hyps.p7 m hO c t) :
    Hyps m hO := fun c t =>
  And.intro (p0 c t) (And.intro (p1 c t) (And.intro (p2 c t) (And.intro (p3 c t) (And.intro (p4 c t) (And.intro (p5 c t) (And.intro (p6 c t) (p7 c t)))))))

/-- The scratch operands: whole scoped buffers of the kernel's own, passed beside the windows. -/
abbrev scM0_0 : Memref sig .tc .vmem S8x32000 .f32 := Memref.whole cc0_scratch0
abbrev scM0_1 : Memref sig .tc .vmem S8x32000 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 1000000 in
/-- The body's triple: on whole staging memrefs — the inputs' at their contents,
    the FORGOTTEN outputs' (3, 4) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S8x1 .f32) (harg2 : arg2.IsWhole) (arg3 : Memref sig .tc .vmem S8x32000 .f32) (harg3 : arg3.IsWhole) (arg4 : Memref sig .tc .vmem S8x32000 .f32) (harg4 : arg4.IsWhole) (arg5 : Memref sig .tc .vmem S8x32000 .bf16) (harg5 : arg5.IsWhole) (arg6 : Memref sig .tc .vmem S8x128 .f32) (harg6 : arg6.IsWhole) (arg7 : Memref sig .tc .vmem S8x32000 .f32) (harg7 : arg7.IsWhole) (arg8 : Memref sig .tc .vmem S8x32000 .f32) (harg8 : arg8.IsWhole)
    (x0 : Vec F S8x1 .f32) (x1 : Vec F S8x32000 .f32) (x2 : Vec F S8x32000 .f32) (xt0 : TbBuf0 (F := F) c tbM0_0) (k0_hw1 : k0_chk1 (tbM0_0.view.readAt (Elt F) (Rect.unit (s := S2176) (k0_off3 i) S1.size (k0_off3_inb i)).toLoadRect xt0 (Shape.Idx.first (numel1_S1.symm ▸ Nat.one_pos)))) (k0_hw2 : k0_chk2 (tbM0_0.view.readAt (Elt F) (Rect.unit (s := S2176) (k0_off5 i) S1.size (k0_off5_inb i)).toLoadRect xt0 (Shape.Idx.first (numel1_S1.symm ▸ Nat.one_pos)))) (k0_hw3 : k0_chk3 (tbM0_0.view.readAt (Elt F) (Rect.unit (s := S2176) (k0_off7 i) S1.size (k0_off7_inb i)).toLoadRect xt0 (Shape.Idx.first (numel1_S1.symm ▸ Nat.one_pos)))) (k0_hw4 : k0_chk4 (tbM0_0.view.readAt (Elt F) (Rect.unit (s := S2176) (k0_off9 i) S1.size (k0_off9_inb i)).toLoadRect xt0 (Shape.Idx.first (numel1_S1.symm ▸ Nat.one_pos)))) (k0_hw5 : k0_chk5 (tbM0_0.view.readAt (Elt F) (Rect.unit (s := S2176) (k0_off11 i) S1.size (k0_off11_inb i)).toLoadRect xt0 (Shape.Idx.first (numel1_S1.symm ▸ Nat.one_pos)))) (k0_hw6 : k0_chk6 (tbM0_0.view.readAt (Elt F) (Rect.unit (s := S2176) (k0_off13 i) S1.size (k0_off13_inb i)).toLoadRect xt0 (Shape.Idx.first (numel1_S1.symm ▸ Nat.one_pos)))) (k0_hw7 : k0_chk7 (tbM0_0.view.readAt (Elt F) (Rect.unit (s := S2176) (k0_off15 i) S1.size (k0_off15_inb i)).toLoadRect xt0 (Shape.Idx.first (numel1_S1.symm ▸ Nat.one_pos)))) (k0_hw8 : k0_chk8 (tbM0_0.view.readAt (Elt F) (Rect.unit (s := S2176) (k0_off17 i) S1.size (k0_off17_inb i)).toLoadRect xt0 (Shape.Idx.first (numel1_S1.symm ▸ Nat.one_pos)))) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ tbPt0 c tbM0_0 xt0
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ tbPt0 c tbM0_0 xt0) -∗ K ⟨⟩))
          ⊢ wp frame (wpE (defs₀ (F := F)) Variants.none c none) E (cc0_verify i tbM0_0 htbM0_0 arg2 harg2 arg3 harg3 arg4 harg4 arg5 harg5 arg6 harg6 arg7 harg7 arg8 harg8) K := by
    intro E K
    simp only [cc0_verify_eq_skeleton]; unfold cc0_verify_skel
    simp only [k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, HT0, Hk⟩
    obtain rfl := harg2.eq_unread hf0; obtain rfl := harg3.eq_unread hf1; obtain rfl := harg4.eq_unread hf2
    sl_exec (disch := first | sl_exact k0_hw1 | sl_exact k0_hw2 | sl_exact k0_hw3 | sl_exact k0_hw4 | sl_exact k0_hw5 | sl_exact k0_hw6 | sl_exact k0_hw7 | sl_exact k0_hw8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    iexact HT0

/-! ## The pipeline's proof data -/

/-- The output windows this certificate FORGETS (3, 4): nothing reads what the kernel leaves in them, so nothing
    of it is named (Lib/Pipeline/Dat.lean `Dat.toRForget`). -/
def forgets0 : Fin 5 → Bool := fun w => w.val == 3 || w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare d)
    ∗ (∃ d, owns (c : Thread nD τ) (ms0_4 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ (∃ d, owns (c : Thread nD τ) (ms0_3 m hO t) fullShare d)
    ∗ (∃ d, owns (c : Thread nD τ) (ms0_4 m hO t) fullShare d))

/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2]
  rw [show (dats m hO hH 0 c).Φ t.castSucc = iprop(Pipeline.ΦA spec0 c ∗ Pipeline.ΦT pre0 (tbl m) c) from rfl, PhiT0_eq, PhiA0_eq]
  iintro ⟨⟨⟨⟨HS0, HS1⟩, Hg⟩, HT0⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ (iblk m hO c 0 t) (iblk m hO c 1 t) (iblk m hO c 2 t) (tbl m 0) (Hyps.c0 hH c t) (Hyps.c1 hH c t) (Hyps.c2 hH c t) (Hyps.c3 hH c t) (Hyps.c4 hH c t) (Hyps.c5 hH c t) (Hyps.c6 hH c t) (Hyps.c7 hH c t)) Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HT0]; · iexact HT0
  iintro ⟨H0, H1, H2, H3, H4, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 3, 4) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO hH 0 c).toRForget forgets0) (A_eq m hO hH) (run_main m ρ hO hH)

/-- The frame at any `F`, for every contents of the token table, under `Ok m` (the pipeline's side condition of the
    table) and `Hyps m hO` (the side conditions the body assumes, at every point); `VerifyClaims` proves both from the
    precondition. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO hH) ((θ_run defs _ _).mono (fun _ h => h.2) (run_main_quiescent m ρ hO hH))

end Cert.Verify.Hand

end
-- ==== Proof.VerifyTokens.lean ====
/-
  Tokens below 32000: what the precondition on the tokens says, and that it gives what the body assumes of each token it
  reads.
-/
module

public import proofs.«01_k».proof.Verify
public import proofs.«01_k».proof.Pre_tokens_in_range
public import Idealize.ShloMosaic.Lib.Affine
public import Idealize.ShloMosaic.Lib.WordCmp
public import Idealize.ShloMosaic.Lib.ReduceAll
public import Idealize.ShloMosaic.Lib.ValueIdx
public import Idealize.ShloMosaic.Lib.StableHlo

@[expose] public section

noncomputable section

open Idealize.ShloMosaic

namespace Cert.Pre_tokens_in_range

variable [Facts]

open Facts

/-- What the precondition says: every token is below 32000. -/
theorem token_lt {F : FTy → Type} [FloatOps F] (t : IVec S2176 32) (u : FVec F S2176x1 .f32) (x y : FVec F S2176x32000 .f32)
    (h : fn (F := F) t u x y = fun _ => 1#1) (r : S2176.Idx) : (t r).toNat < 32000 := by
  haveI : Subsingleton S_.Idx := ⟨fun a b => funext fun i => i.elim0⟩
  have h0 : Host.reduce IntOp.andi (andi (cmpi .sge t (broadcastInDim S2176 ![] bcast_S_S2176 (constantI S_ 32 0#32)))
      (cmpi .slt t (broadcastInDim S2176 ![] bcast_S_S2176 (constantI S_ 32 32000#32))))
      (constantI S_ 1 1#1) reducesTo_S2176_S_d0 h_S_ (fun a => a.elim0) = 1#1 := congrFun h (fun a => a.elim0)
  have h1 := Host.reduce_andi_all _ _ _ _ _ h0 r
  have h2 : IntOp.andi (IntOp.cmpi .sge (t r) 0#32) (IntOp.cmpi .slt (t r) 32000#32) = 1#1 := h1
  have hn : (t r).toNat < 2 ^ 31 := by
    by_contra hc
    rw [WordCmp.cmpi_sge_zero, decide_eq_false (by simpa using hc)] at h2
    revert h2
    generalize IntOp.cmpi .slt (t r) 32000#32 = b
    revert b
    decide
  by_contra hc
  rw [WordCmp.cmpi_slt_of_lt (x := t r) hn (by decide), decide_eq_false (by simpa using hc)] at h2
  revert h2
  generalize IntOp.cmpi .sge (t r) 0#32 = b
  revert b
  decide

end Cert.Pre_tokens_in_range

namespace Cert.Verify

/-- The block of 128 columns that holds a token begins at the token rounded down to a multiple of 128. -/
theorem base_of_lt (w : BitVec 32) (h : w.toNat < 32000) : (k0_mult61 w).toNat = 128 * (w.toNat / 128) := by
  by_cases h0 : w = 0#32
  · subst h0; decide
  have hpos : 0 < w.toNat := by
    rcases Nat.eq_zero_or_pos w.toNat with e | e
    · exact absurd (BitVec.eq_of_toNat_eq e) h0
    · exact e
  have h1 : Scalar.cmpi .sgt w 0#32 = 1#1 := by
    show IntOp.cmpi .sgt w 0#32 = 1#1
    rw [WordCmp.cmpi_sgt_of_lt (by simpa using (by omega : w.toNat < 2 ^ 31)) (by decide), decide_eq_true (by simpa using hpos)]
    rfl
  have h2 : Scalar.cmpi .slt w 0#32 = 0#1 := by
    show IntOp.cmpi .slt w 0#32 = 0#1
    rw [WordCmp.cmpi_slt_of_lt (by simpa using (by omega : w.toNat < 2 ^ 31)) (by decide), decide_eq_false (by simp)]
    rfl
  have h3 : k0_mult61 w = Scalar.muli (Scalar.divsi w 128#32) 128#32 := by
    unfold k0_mult61
    simp only [h1, h2]
    generalize Scalar.cmpi .ne (Scalar.remsi w 128#32) 0#32 = b
    generalize Scalar.divsi w 128#32 = d
    have hz : ∀ b : BitVec 1, Scalar.andi (Scalar.cmpi .ne (Scalar.subi (Scalar.extui 1#1) (Scalar.extui 0#1)) (Scalar.subi (Scalar.extui (Scalar.cmpi .sgt 128#32 0#32)) (Scalar.extui (Scalar.cmpi .slt 128#32 0#32)))) b = 0#1 := by
      decide
    rw [hz b]
    rfl
  have hw : Affine.IsInt w (w.toNat : Int) := by
    have e := Affine.ofNat (e := (w.toNat : Int)) w.toNat ⟨rfl, by omega⟩
    rwa [BitVec.ofNat_toNat, BitVec.setWidth_eq] at e
  have hc : Affine.IsInt 128#32 (128 : Int) := Affine.ofNat 128 ⟨rfl, by decide⟩
  have hd := Affine.divsi hw hc (e := (w.toNat : Int) / 128) ⟨rfl, by omega, by decide⟩
  have hm := Affine.muli hd hc (e := (w.toNat : Int) / 128 * 128) ⟨rfl, by omega, by omega⟩
  have := Affine.toNat_of hm (by omega)
  rw [h3]
  omega

/-- What the body assumes of a token it reads holds of every token below 32000. -/
theorem chk (w : BitVec 32) (h : w.toNat < 32000) : k0_chk1 w := by
  have hb := base_of_lt w h
  refine ⟨hb ▸ Nat.dvd_mul_right _ _, fun a => ?_⟩
  have e : k0_off4 w = ![0, (k0_mult61 w).toNat] := rfl
  rw [e]
  fin_cases a
  · show 0 + 8 ≤ 8
    omega
  · show (k0_mult61 w).toNat + 128 ≤ 32000
    omega

end Cert.Verify

end
-- ==== Proof.VerifyClaims.lean ====
/-
  The claims about the verification call: it terminates without fault and leaves its arguments unchanged, over words and
  over the extended reals, wherever every draft token is a column of the logits.
-/
module

public import proofs.«01_k».proof.Defs
public import proofs.«01_k».proof.Proof.VerifyFrame
public import proofs.«01_k».proof.Proof.VerifyTokens
public import proofs.«01_k».proof.Proof.Gen.VerifyIdeal
public import proofs.«01_k».proof.Proof.Gen.Pre_tokens_in_range

@[expose] public section

set_option maxRecDepth 16384

noncomputable section

open Idealize.ShloMosaic Idealize.ShloMosaic.TcCoe Idealize.SL.Sem

namespace Cert.Proof.VerifyClaims

open Cert.Verify Cert.Verify.Gen Cert.Verify.Hand

section

variable {F : FTy → Type} [FloatOps F] (m : (ℓ : Loc nD τ sig) → Buf (Elt F) ℓ)

/-- Every device's tokens are columns of the logits. -/
def InRange : Prop := ∀ (c : Dev nD) (r : S2176.Idx), (m ((c.tc : Thread nD τ).loc main_arg0) r : BitVec 32).toNat < 32000

/-- A word loaded from the table of tokens is a column of the logits. -/
theorem load_lt (h : InRange m) (R : LoadRect S2176) (j : R.shape.Idx) :
    (tbM0_0.view.readAt (Elt F) R (tbl m 0) j : BitVec 32).toNat < 32000 := by
  exact h 0 _

/-- Tokens in range meet what the body assumes of the eight tokens it reads at each point. -/
theorem hyps (h : InRange m) : Hyps m (trivial : Ok m) := by
  intro c t
  exact ⟨chk _ (load_lt m h _ _), chk _ (load_lt m h _ _), chk _ (load_lt m h _ _), chk _ (load_lt m h _ _),
    chk _ (load_lt m h _ _), chk _ (load_lt m h _ _), chk _ (load_lt m h _ _), chk _ (load_lt m h _ _)⟩

end

/-- The body tables of the two printed programs are the same. -/
theorem bodies_eq {F : FTy → Type} [FloatOps F] : Cert.VerifyIdeal.defs₀ (F := F) = Cert.Verify.defs₀ (F := F) := by
  unfold Cert.VerifyIdeal.defs₀ Cert.Verify.defs₀
  refine congrArg Defs.onTc ?_
  funext l a
  fin_cases l
  rfl

theorem defs_eq {F : FTy → Type} [FloatOps F] : Cert.VerifyIdeal.defs (F := F) = Cert.Verify.defs (F := F) := by
  unfold Cert.VerifyIdeal.defs Cert.Verify.defs
  exact congrArg (Pipeline.defs Cert.Verify.pcfgs) bodies_eq

theorem frame : Cert.quiescent_Verify := fun m ρ hpre =>
  Cert.Verify.Hand.frame m ρ trivial (hyps m fun c r => Cert.Pre_tokens_in_range.token_lt _ _ _ _ (hpre c) r)

theorem frame_ideal : Cert.quiescent_VerifyIdeal := by
  intro m ρ hpre
  have h := Cert.Verify.Hand.frame (F := Ideal) m ρ trivial (hyps m fun c r => Cert.Pre_tokens_in_range.token_lt _ _ _ _ (hpre c) r)
  rw [← defs_eq] at h
  exact h

theorem preserves : Cert.preserves_Verify_VerifyIdeal := trivial

end Cert.Proof.VerifyClaims

end
-- ==== Proof.lean ====
/-
  The claims about the head products (`HeadsClaims`), about the verification call (`VerifyClaims`) and about the softmax
  after the last position (`BonusClaims`), assembled.
-/
module

public import proofs.«01_k».proof.Defs
public import proofs.«01_k».proof.Proof.Gen.Heads
public import proofs.«01_k».proof.Proof.Gen.Heads.Skeleton
public import proofs.«01_k».proof.Proof.Gen.Heads.Launch
public import proofs.«01_k».proof.Proof.Gen.Heads.Points
public import proofs.«01_k».proof.Proof.Gen.Heads.Frame
public import proofs.«01_k».proof.Proof.Gen.HeadsIdeal
public import proofs.«01_k».proof.Proof.Gen.HeadsIdeal.Skeleton
public import proofs.«01_k».proof.Proof.Gen.HeadsIdeal.Launch
public import proofs.«01_k».proof.Proof.Gen.HeadsIdeal.Points
public import proofs.«01_k».proof.Proof.Gen.HeadsIdeal.Frame
public import proofs.«01_k».proof.Proof.Gen.HeadsRefIdeal
public import proofs.«01_k».proof.Proof.Gen.HeadsRefIdeal.Skeleton
public import proofs.«01_k».proof.Proof.Gen.HeadsRefIdeal.Launch
public import proofs.«01_k».proof.Proof.Gen.HeadsRefIdeal.Points
public import proofs.«01_k».proof.Proof.Gen.HeadsRefIdeal.Frame
public import proofs.«01_k».proof.Proof.Gen.Verify
public import proofs.«01_k».proof.Proof.Gen.Verify.Skeleton
public import proofs.«01_k».proof.Proof.Gen.Verify.Loops
public import proofs.«01_k».proof.Proof.Gen.Verify.Launch
public import proofs.«01_k».proof.Proof.Gen.VerifyIdeal
public import proofs.«01_k».proof.Proof.Gen.Bonus
public import proofs.«01_k».proof.Proof.Gen.Bonus.Skeleton
public import proofs.«01_k».proof.Proof.Gen.Bonus.Launch
public import proofs.«01_k».proof.Proof.Gen.Bonus.Points
public import proofs.«01_k».proof.Proof.Gen.Bonus.Frame
public import proofs.«01_k».proof.Proof.Gen.BonusIdeal
public import proofs.«01_k».proof.Proof.Gen.BonusIdeal.Skeleton
public import proofs.«01_k».proof.Proof.Gen.BonusIdeal.Launch
public import proofs.«01_k».proof.Proof.Gen.BonusIdeal.Points
public import proofs.«01_k».proof.Proof.Gen.BonusIdeal.Frame
public import proofs.«01_k».proof.Proof.Gen.BonusRefIdeal
public import proofs.«01_k».proof.Proof.Gen.Pre_tokens_in_range
public import proofs.«01_k».proof.Proof.Gen.Pre_largest_logits_finite
public import proofs.«01_k».proof.Proof.Gen.HeadsIdeal.Value
public import proofs.«01_k».proof.Proof.Gen.HeadsRefIdeal.Value
public import proofs.«01_k».proof.Proof.Gen.BonusIdeal.Value
public import proofs.«01_k».proof.Proof.Gen.BonusRefIdeal.Run
public import proofs.«01_k».proof.Proof.HeadsClaims
public import proofs.«01_k».proof.Proof.BonusClaims
public import proofs.«01_k».proof.Proof.VerifyClaims
public import Idealize.ShloMosaic.Adequacy
public import Idealize.ShloMosaic.Init

@[expose] public section

noncomputable section

namespace Cert.Proof

open Idealize.ShloMosaic Idealize.SL.Sem Cert.Heads

theorem claim : Cert.Claim := ⟨Cert.Heads.Gen.facts, Cert.HeadsIdeal.Gen.facts, Cert.HeadsRefIdeal.Gen.facts, Cert.Verify.Gen.facts, Cert.VerifyIdeal.Gen.facts, Cert.Bonus.Gen.facts, Cert.BonusIdeal.Gen.facts, Cert.BonusRefIdeal.Gen.facts, Cert.Pre_tokens_in_range.Gen.facts, Cert.Pre_largest_logits_finite.Gen.facts,
  HeadsClaims.frame, HeadsClaims.frame_ideal, HeadsClaims.frame_ref,
  VerifyClaims.frame, VerifyClaims.frame_ideal,
  BonusClaims.frame, BonusClaims.frame_ideal, BonusClaims.frame_ideal_pre, BonusClaims.frame_ref, BonusClaims.frame_ref_pre,
  HeadsClaims.preserves, HeadsClaims.algebraic, VerifyClaims.preserves, BonusClaims.preserves, BonusClaims.algebraic⟩

end Cert.Proof

end
